-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_drawn [hPre_drawn : Cert.Pre_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_drawn [hPre_drawn : Cert.Pre_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_drawn [hKernelIdeal : Cert.KernelIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_drawn [hReferenceIdeal : Cert.ReferenceIdeal.Facts] [hPre_drawn : Cert.Pre_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_s" .f32 0x3A83126F#32 ((1000⁻¹ : ℝ) : EReal)

def algebraic_KernelIdeal_ReferenceIdeal_pre_drawn [hKernelIdeal : Cert.KernelIdeal.Facts] [hReferenceIdeal : Cert.ReferenceIdeal.Facts] [hPre_drawn : Cert.Pre_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_drawn : Cert.Pre_drawn.Facts),
    quiescent_Kernel (hKernel := hKernel)
    ∧ quiescent_KernelIdeal (hKernelIdeal := hKernelIdeal)
    ∧ quiescent_KernelIdeal_pre_drawn (hKernelIdeal := hKernelIdeal) (hPre_drawn := hPre_drawn)
    ∧ quiescent_ReferenceIdeal (hReferenceIdeal := hReferenceIdeal)
    ∧ quiescent_ReferenceIdeal_pre_drawn (hReferenceIdeal := hReferenceIdeal) (hPre_drawn := hPre_drawn)
    ∧ preserves_Kernel_KernelIdeal
    ∧ algebraic_KernelIdeal_ReferenceIdeal_pre_drawn (hKernelIdeal := hKernelIdeal) (hReferenceIdeal := hReferenceIdeal) (hPre_drawn := hPre_drawn)
-- ==== Pre_drawn.lean ====
abbrev S1000x310 : Shape := ⟨2, ![1000, 310]⟩
abbrev S10x128 : Shape := ⟨2, ![10, 128]⟩
abbrev S128 : Shape := ⟨1, ![128]⟩
abbrev S300x128 : Shape := ⟨2, ![300, 128]⟩
abbrev S128x128 : Shape := ⟨2, ![128, 128]⟩
abbrev S600000 : Shape := ⟨1, ![600000]⟩
abbrev S_ : Shape := ⟨0, ![]⟩
abbrev S1x300 : Shape := ⟨2, ![1, 300]⟩
abbrev S300 : Shape := ⟨1, ![300]⟩
abbrev S1000x10 : Shape := ⟨2, ![1000, 10]⟩

class Facts : Prop where
  bcast_S_S600000 : S_.BroadcastsInDim S600000 (![] : Fin 0 → Fin S600000.rank)
  reducesTo_S600000_S_d0 : S600000.ReducesTo [0] S_
  h_S_ : 0 < S_.numel
  slices_S1000x310_S1x300_0_10 : S1000x310.Slices ![0, 10] S1x300
  shapeCasts_S1x300_S300 : S1x300.ShapeCasts S300
  reducesTo_S300_S_d0 : S300.ReducesTo [0] S_
  slices_S1000x310_S1000x10_0_0 : S1000x310.Slices ![0, 0] S1000x10
  bcast_S_S1000x10 : S_.BroadcastsInDim S1000x10 (![] : Fin 0 → Fin S1000x10.rank)
  reducesTo_S1000x10_S_d0_1 : S1000x10.ReducesTo [0, 1] S_
  bcast_S_S10x128 : S_.BroadcastsInDim S10x128 (![] : Fin 0 → Fin S10x128.rank)
  reducesTo_S10x128_S_d0_1 : S10x128.ReducesTo [0, 1] S_
  bcast_S_S128 : S_.BroadcastsInDim S128 (![] : Fin 0 → Fin S128.rank)
  reducesTo_S128_S_d0 : S128.ReducesTo [0] S_
  bcast_S_S300x128 : S_.BroadcastsInDim S300x128 (![] : Fin 0 → Fin S300x128.rank)
  reducesTo_S300x128_S_d0_1 : S300x128.ReducesTo [0, 1] S_
  bcast_S_S128x128 : S_.BroadcastsInDim S128x128 (![] : Fin 0 → Fin S128x128.rank)
  reducesTo_S128x128_S_d0_1 : S128x128.ReducesTo [0, 1] S_

variable [Facts]

def fn_where {F : FTy → Type} [FloatOps F] (arg0 : IVec S600000 1) (arg1 : IVec S600000 32) (arg2 : IVec S600000 32) : IVec S600000 32 :=
  let v0 : IVec S600000 32 := select arg0 arg1 arg2
  v0

def fn_part3 {F : FTy → Type} [FloatOps F] (main_arg6 : FVec F S128x128 .f32) (main_arg7 : FVec F S128x128 .f32) (main_v47 : IVec S_ 1) (main_v51 : IVec S_ 1) : IVec S_ 1 :=
  let main_v52 : IVec S_ 1 := andi main_v47 main_v51
  let main_v53 : FVec F S128x128 .f32 := Host.absf main_arg6
  let main_cst_18 : FVec F S_ .f32 := constant S_ .f32 0x7F800000#32
  let main_v54 : FVec F S128x128 .f32 := broadcastInDim S128x128 ![] bcast_S_S128x128 main_cst_18
  let main_v55 : IVec S128x128 1 := cmpf .olt main_v53 main_v54
  let main_c_19 : IVec S_ 1 := constantI S_ 1 1#1
  let main_v56 : IVec S_ 1 := (fun x v => Host.reduce IntOp.andi x v reducesTo_S128x128_S_d0_1 h_S_) main_v55 main_c_19
  let main_v57 : IVec S_ 1 := andi main_v52 main_v56
  let main_v58 : FVec F S128x128 .f32 := Host.absf main_arg7
  let main_cst_20 : FVec F S_ .f32 := constant S_ .f32 0x7F800000#32
  let main_v59 : FVec F S128x128 .f32 := broadcastInDim S128x128 ![] bcast_S_S128x128 main_cst_20
  let main_v60 : IVec S128x128 1 := cmpf .olt main_v58 main_v59
  let main_c_21 : IVec S_ 1 := constantI S_ 1 1#1
  let main_v61 : IVec S_ 1 := (fun x v => Host.reduce IntOp.andi x v reducesTo_S128x128_S_d0_1 h_S_) main_v60 main_c_21
  let main_v62 : IVec S_ 1 := andi main_v57 main_v61
  main_v62

def fn_part2 {F : FTy → Type} [FloatOps F] (main_arg3 : FVec F S300x128 .f32) (main_arg4 : FVec F S128 .f32) (main_arg5 : FVec F S128x128 .f32) (main_arg6 : FVec F S128x128 .f32) (main_arg7 : FVec F S128x128 .f32) (main_v32 : IVec S_ 1) (main_v33 : FVec F S128 .f32) (main_v34 : FVec F S128 .f32) : IVec S_ 1 :=
  let main_v35 : IVec S128 1 := cmpf .olt main_v33 main_v34
  let main_c_11 : IVec S_ 1 := constantI S_ 1 1#1
  let main_v36 : IVec S_ 1 := (fun x v => Host.reduce IntOp.andi x v reducesTo_S128_S_d0 h_S_) main_v35 main_c_11
  let main_v37 : IVec S_ 1 := andi main_v32 main_v36
  let main_v38 : FVec F S300x128 .f32 := Host.absf main_arg3
  let main_cst_12 : FVec F S_ .f32 := constant S_ .f32 0x7F800000#32
  let main_v39 : FVec F S300x128 .f32 := broadcastInDim S300x128 ![] bcast_S_S300x128 main_cst_12
  let main_v40 : IVec S300x128 1 := cmpf .olt main_v38 main_v39
  let main_c_13 : IVec S_ 1 := constantI S_ 1 1#1
  let main_v41 : IVec S_ 1 := (fun x v => Host.reduce IntOp.andi x v reducesTo_S300x128_S_d0_1 h_S_) main_v40 main_c_13
  let main_v42 : IVec S_ 1 := andi main_v37 main_v41
  let main_v43 : FVec F S128 .f32 := Host.absf main_arg4
  let main_cst_14 : FVec F S_ .f32 := constant S_ .f32 0x7F800000#32
  let main_v44 : FVec F S128 .f32 := broadcastInDim S128 ![] bcast_S_S128 main_cst_14
  let main_v45 : IVec S128 1 := cmpf .olt main_v43 main_v44
  let main_c_15 : IVec S_ 1 := constantI S_ 1 1#1
  let main_v46 : IVec S_ 1 := (fun x v => Host.reduce IntOp.andi x v reducesTo_S128_S_d0 h_S_) main_v45 main_c_15
  let main_v47 : IVec S_ 1 := andi main_v42 main_v46
  let main_v48 : FVec F S128x128 .f32 := Host.absf main_arg5
  let main_cst_16 : FVec F S_ .f32 := constant S_ .f32 0x7F800000#32
  let main_v49 : FVec F S128x128 .f32 := broadcastInDim S128x128 ![] bcast_S_S128x128 main_cst_16
  let main_v50 : IVec S128x128 1 := cmpf .olt main_v48 main_v49
  let main_c_17 : IVec S_ 1 := constantI S_ 1 1#1
  let main_v51 : IVec S_ 1 := (fun x v => Host.reduce IntOp.andi x v reducesTo_S128x128_S_d0_1 h_S_) main_v50 main_c_17
  fn_part3 (F := F) main_arg6 main_arg7 main_v47 main_v51

def fn_part1 {F : FTy → Type} [FloatOps F] (main_arg0 : FVec F S1000x310 .f32) (main_arg1 : FVec F S10x128 .f32) (main_arg2 : FVec F S128 .f32) (main_arg3 : FVec F S300x128 .f32) (main_arg4 : FVec F S128 .f32) (main_arg5 : FVec F S128x128 .f32) (main_arg6 : FVec F S128x128 .f32) (main_arg7 : FVec F S128x128 .f32) (main_v16 : IVec S_ 1) (main_v17 : FVec F S1x300 .f32) : IVec S_ 1 :=
  let main_v18 : FVec F S300 .f32 := shapeCast S300 main_v17 shapeCasts_S1x300_S300
  let main_cst : FVec F S_ .f32 := constant S_ .f32 0x00000000#32
  let main_v19 : FVec F S_ .f32 := (fun x v => Host.reduceAdd x v reducesTo_S300_S_d0 h_S_) main_v18 main_cst
  let main_cst_5 : FVec F S_ .f32 := constant S_ .f32 0x00000000#32
  let main_v20 : IVec S_ 1 := cmpf .oeq main_v19 main_cst_5
  let main_v21 : IVec S_ 1 := andi main_v16 main_v20
  let main_v22 : FVec F S1000x10 .f32 := (extractStridedSlice S1000x10 ![0, 0] · slices_S1000x310_S1000x10_0_0) main_arg0
  let main_v23 : FVec F S1000x10 .f32 := Host.absf main_v22
  let main_cst_6 : FVec F S_ .f32 := constant S_ .f32 0x7F800000#32
  let main_v24 : FVec F S1000x10 .f32 := broadcastInDim S1000x10 ![] bcast_S_S1000x10 main_cst_6
  let main_v25 : IVec S1000x10 1 := cmpf .olt main_v23 main_v24
  let main_c_7 : IVec S_ 1 := constantI S_ 1 1#1
  let main_v26 : IVec S_ 1 := (fun x v => Host.reduce IntOp.andi x v reducesTo_S1000x10_S_d0_1 h_S_) main_v25 main_c_7
  let main_v27 : IVec S_ 1 := andi main_v21 main_v26
  let main_v28 : FVec F S10x128 .f32 := Host.absf main_arg1
  let main_cst_8 : FVec F S_ .f32 := constant S_ .f32 0x7F800000#32
  let main_v29 : FVec F S10x128 .f32 := broadcastInDim S10x128 ![] bcast_S_S10x128 main_cst_8
  let main_v30 : IVec S10x128 1 := cmpf .olt main_v28 main_v29
  let main_c_9 : IVec S_ 1 := constantI S_ 1 1#1
  let main_v31 : IVec S_ 1 := (fun x v => Host.reduce IntOp.andi x v reducesTo_S10x128_S_d0_1 h_S_) main_v30 main_c_9
  let main_v32 : IVec S_ 1 := andi main_v27 main_v31
  let main_v33 : FVec F S128 .f32 := Host.absf main_arg2
  let main_cst_10 : FVec F S_ .f32 := constant S_ .f32 0x7F800000#32
  let main_v34 : FVec F S128 .f32 := broadcastInDim S128 ![] bcast_S_S128 main_cst_10
  fn_part2 (F := F) main_arg3 main_arg4 main_arg5 main_arg6 main_arg7 main_v32 main_v33 main_v34

def fn {F : FTy → Type} [FloatOps F] (main_arg0 : FVec F S1000x310 .f32) (main_arg1 : FVec F S10x128 .f32) (main_arg2 : FVec F S128 .f32) (main_arg3 : FVec F S300x128 .f32) (main_arg4 : FVec F S128 .f32) (main_arg5 : FVec F S128x128 .f32) (main_arg6 : FVec F S128x128 .f32) (main_arg7 : FVec F S128x128 .f32) (main_arg8 : IVec S600000 32) (main_arg9 : IVec S600000 32) : IVec S_ 1 :=
  let main_v0 : IVec S600000 32 := iotaInDim S600000 32 0
  let main_c : IVec S_ 32 := constantI S_ 32 300000#32
  let main_v1 : IVec S600000 32 := broadcastInDim S600000 ![] bcast_S_S600000 main_c
  let main_v2 : IVec S600000 32 := Host.remsi main_v0 main_v1
  let main_c_0 : IVec S_ 32 := constantI S_ 32 300#32
  let main_v3 : IVec S600000 32 := broadcastInDim S600000 ![] bcast_S_S600000 main_c_0
  let main_v4 : IVec S600000 32 := Host.divsi main_v2 main_v3
  let main_c_1 : IVec S_ 32 := constantI S_ 32 300#32
  let main_v5 : IVec S600000 32 := broadcastInDim S600000 ![] bcast_S_S600000 main_c_1
  let main_v6 : IVec S600000 32 := Host.remsi main_v0 main_v5
  let main_c_2 : IVec S_ 32 := constantI S_ 32 1000#32
  let main_v7 : IVec S600000 32 := broadcastInDim S600000 ![] bcast_S_S600000 main_c_2
  let main_v8 : IVec S600000 32 := addi main_v6 main_v7
  let main_c_3 : IVec S_ 32 := constantI S_ 32 300000#32
  let main_v9 : IVec S600000 32 := broadcastInDim S600000 ![] bcast_S_S600000 main_c_3
  let main_v10 : IVec S600000 1 := cmpi .slt main_v0 main_v9
  let main_v11 : IVec S600000 32 := fn_where (F := F) main_v10 main_v4 main_v8
  let main_v12 : IVec S600000 1 := cmpi .eq main_arg8 main_v11
  let main_v13 : IVec S600000 32 := fn_where (F := F) main_v10 main_v8 main_v4
  let main_v14 : IVec S600000 1 := cmpi .eq main_arg9 main_v13
  let main_v15 : IVec S600000 1 := andi main_v12 main_v14
  let main_c_4 : IVec S_ 1 := constantI S_ 1 1#1
  let main_v16 : IVec S_ 1 := (fun x v => Host.reduce IntOp.andi x v reducesTo_S600000_S_d0 h_S_) main_v15 main_c_4
  let main_v17 : FVec F S1x300 .f32 := (extractStridedSlice S1x300 ![0, 10] · slices_S1000x310_S1x300_0_10) main_arg0
  fn_part1 (F := F) main_arg0 main_arg1 main_arg2 main_arg3 main_arg4 main_arg5 main_arg6 main_arg7 main_v16 main_v17
-- ==== Kernel.lean ====
abbrev S1000x310 : Shape := ⟨2, ![1000, 310]⟩
abbrev S10x128 : Shape := ⟨2, ![10, 128]⟩
abbrev S128 : Shape := ⟨1, ![128]⟩
abbrev S300x128 : Shape := ⟨2, ![300, 128]⟩
abbrev S128x128 : Shape := ⟨2, ![128, 128]⟩
abbrev S600000 : Shape := ⟨1, ![600000]⟩
abbrev S1000x16 : Shape := ⟨2, ![1000, 16]⟩
abbrev S1x128 : Shape := ⟨2, ![1, 128]⟩
abbrev S1x300 : Shape := ⟨2, ![1, 300]⟩
abbrev S1000x10 : Shape := ⟨2, ![1000, 10]⟩
abbrev S10 : Shape := ⟨1, ![10]⟩
abbrev S1x10 : Shape := ⟨2, ![1, 10]⟩
abbrev S2x10 : Shape := ⟨2, ![2, 10]⟩
abbrev S2x128 : Shape := ⟨2, ![2, 128]⟩
abbrev S1 : Shape := ⟨1, ![1]⟩
abbrev S1x1 : Shape := ⟨2, ![1, 1]⟩
abbrev S300 : Shape := ⟨1, ![300]⟩

abbrev nBuf : Space → Nat
  | .hbm => 15
  | .vmem => 9
  | .smem => 0
  | _ => 0

abbrev bufTy : (tb : Table) → Fin (tcTables nBuf tb) → BufTy
  | .hbm, ⟨0, _⟩ => ⟨S1000x310, .f32⟩
  | .hbm, ⟨1, _⟩ => ⟨S10x128, .f32⟩
  | .hbm, ⟨2, _⟩ => ⟨S128, .f32⟩
  | .hbm, ⟨3, _⟩ => ⟨S300x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S600000, .i32⟩
  | .hbm, ⟨9, _⟩ => ⟨S600000, .i32⟩
  | .hbm, ⟨10, _⟩ => ⟨S1000x16, .f32⟩
  | .hbm, ⟨11, _⟩ => ⟨S1x128, .f32⟩
  | .hbm, ⟨12, _⟩ => ⟨S1x128, .f32⟩
  | .hbm, ⟨13, _⟩ => ⟨S1x300, .f32⟩
  | .hbm, ⟨14, _⟩ => ⟨S300, .f32⟩
  | .local _ .vmem, ⟨0, _⟩ => ⟨S1000x16, .f32⟩
  | .local _ .vmem, ⟨1, _⟩ => ⟨S10x128, .f32⟩
  | .local _ .vmem, ⟨2, _⟩ => ⟨S1x128, .f32⟩
  | .local _ .vmem, ⟨3, _⟩ => ⟨S300x128, .f32⟩
  | .local _ .vmem, ⟨4, _⟩ => ⟨S1x128, .f32⟩
  | .local _ .vmem, ⟨5, _⟩ => ⟨S128x128, .f32⟩
  | .local _ .vmem, ⟨6, _⟩ => ⟨S128x128, .f32⟩
  | .local _ .vmem, ⟨7, _⟩ => ⟨S128x128, .f32⟩
  | .local _ .vmem, ⟨8, _⟩ => ⟨S1x300, .f32⟩
  | _, _ => ⟨S1000x310, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S1000x16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S10x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S300x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S128x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x300 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "inv_s" => some ((1000⁻¹ : ℝ) : EReal)
  | _ => none
-- ==== ReferenceIdeal.lean ====
abbrev S1000x310 : Shape := ⟨2, ![1000, 310]⟩
abbrev S10x128 : Shape := ⟨2, ![10, 128]⟩
abbrev S128 : Shape := ⟨1, ![128]⟩
abbrev S300x128 : Shape := ⟨2, ![300, 128]⟩
abbrev S128x128 : Shape := ⟨2, ![128, 128]⟩
abbrev S600000 : Shape := ⟨1, ![600000]⟩
abbrev S1000x10 : Shape := ⟨2, ![1000, 10]⟩
abbrev S1000x128 : Shape := ⟨2, ![1000, 128]⟩
abbrev S1x128 : Shape := ⟨2, ![1, 128]⟩
abbrev S300x300 : Shape := ⟨2, ![300, 300]⟩
abbrev S_ : Shape := ⟨0, ![]⟩
abbrev S1300x128 : Shape := ⟨2, ![1300, 128]⟩
abbrev S600000x1 : Shape := ⟨2, ![600000, 1]⟩
abbrev S600000x128 : Shape := ⟨2, ![600000, 128]⟩
abbrev S1300 : Shape := ⟨1, ![1300]⟩
abbrev S1300x1 : Shape := ⟨2, ![1300, 1]⟩
abbrev S1000x300 : Shape := ⟨2, ![1000, 300]⟩
abbrev S1000 : Shape := ⟨1, ![1000]⟩
abbrev S300 : Shape := ⟨1, ![300]⟩
abbrev S1 : Shape := ⟨1, ![1]⟩

abbrev nBuf : Space → Nat
  | .hbm => 100
  | .vmem => 0
  | .smem => 0
  | _ => 0

abbrev bufTy : (tb : Table) → Fin (tcTables nBuf tb) → BufTy
  | .hbm, ⟨0, _⟩ => ⟨S1000x310, .f32⟩
  | .hbm, ⟨1, _⟩ => ⟨S10x128, .f32⟩
  | .hbm, ⟨2, _⟩ => ⟨S128, .f32⟩
  | .hbm, ⟨3, _⟩ => ⟨S300x128, .f32⟩
  | .hbm, ⟨4, _⟩ => ⟨S128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S600000, .i32⟩
  | .hbm, ⟨9, _⟩ => ⟨S600000, .i32⟩
  | .hbm, ⟨10, _⟩ => ⟨S1000x10, .f32⟩
  | .hbm, ⟨11, _⟩ => ⟨S1000x128, .f32⟩
  | .hbm, ⟨12, _⟩ => ⟨S1x128, .f32⟩
  | .hbm, ⟨13, _⟩ => ⟨S1000x128, .f32⟩
  | .hbm, ⟨14, _⟩ => ⟨S1000x128, .f32⟩
  | .hbm, ⟨15, _⟩ => ⟨S300x300, .i32⟩
  | .hbm, ⟨16, _⟩ => ⟨S300x300, .i32⟩
  | .hbm, ⟨17, _⟩ => ⟨S_, .i32⟩
  | .hbm, ⟨18, _⟩ => ⟨S300x300, .i32⟩
  | .hbm, ⟨19, _⟩ => ⟨S300x300, .i32⟩
  | .hbm, ⟨20, _⟩ => ⟨S300x300, .i1⟩
  | .hbm, ⟨21, _⟩ => ⟨S300x300, .f32⟩
  | .hbm, ⟨22, _⟩ => ⟨S300x128, .f32⟩
  | .hbm, ⟨23, _⟩ => ⟨S1x128, .f32⟩
  | .hbm, ⟨24, _⟩ => ⟨S300x128, .f32⟩
  | .hbm, ⟨25, _⟩ => ⟨S300x128, .f32⟩
  | .hbm, ⟨26, _⟩ => ⟨S1300x128, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .f32⟩
  | .hbm, ⟨37, _⟩ => ⟨S1300x128, .f32⟩
  | .hbm, ⟨38, _⟩ => ⟨S600000x1, .i32⟩
  | .hbm, ⟨39, _⟩ => ⟨S1300x128, .f32⟩
  | .hbm, ⟨40, _⟩ => ⟨S_, .f32⟩
  | .hbm, ⟨41, _⟩ => ⟨S600000, .f32⟩
  | .hbm, ⟨42, _⟩ => ⟨S_, .f32⟩
  | .hbm, ⟨43, _⟩ => ⟨S1300, .f32⟩
  | .hbm, ⟨44, _⟩ => ⟨S600000x1, .i32⟩
  | .hbm, ⟨45, _⟩ => ⟨S1300, .f32⟩
  | .hbm, ⟨46, _⟩ => ⟨S_, .f32⟩
  | .hbm, ⟨47, _⟩ => ⟨S1300, .f32⟩
  | .hbm, ⟨48, _⟩ => ⟨S1300, .f32⟩
  | .hbm, ⟨49, _⟩ => ⟨S1300x1, .f32⟩
  | .hbm, ⟨50, _⟩ => ⟨S1300x128, .f32⟩
  | .hbm, ⟨51, _⟩ => ⟨S1300x128, .f32⟩
  | .hbm, ⟨52, _⟩ => ⟨S1300x128, .f32⟩
  | .hbm, ⟨53, _⟩ => ⟨S1300x128, .f32⟩
  | .hbm, ⟨54, _⟩ => ⟨S1300x128, .f32⟩
  | .hbm, ⟨55, _⟩ => ⟨S_, .f32⟩
  | .hbm, ⟨56, _⟩ => ⟨S1300x128, .f32⟩
  | .hbm, ⟨57, _⟩ => ⟨S1300x128, .f32⟩
  | .hbm, ⟨58, _⟩ => ⟨S1000x300, .f32⟩
  | .hbm, ⟨59, _⟩ => ⟨S_, .f32⟩
  | .hbm, ⟨60, _⟩ => ⟨S1000, .f32⟩
  | .hbm, ⟨61, _⟩ => ⟨S_, .f32⟩
  | .hbm, ⟨62, _⟩ => ⟨S1000, .f32⟩
  | .hbm, ⟨63, _⟩ => ⟨S1000, .i1⟩
  | .hbm, ⟨64, _⟩ => ⟨S1000, .i32⟩
  | .hbm, ⟨65, _⟩ => ⟨S_, .i1⟩
  | .hbm, ⟨66, _⟩ => ⟨S_, .i32⟩
  | .hbm, ⟨67, _⟩ => ⟨S_, .i1⟩
  | .hbm, ⟨68, _⟩ => ⟨S_, .i32⟩
  | .hbm, ⟨69, _⟩ => ⟨S_, .i32⟩
  | .hbm, ⟨70, _⟩ => ⟨S_, .i1⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i1⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i32⟩
  | .hbm, ⟨81, _⟩ => ⟨S_, .i32⟩
  | .hbm, ⟨82, _⟩ => ⟨S1x128, .f32⟩
  | .hbm, ⟨83, _⟩ => ⟨S128, .f32⟩
  | .hbm, ⟨84, _⟩ => ⟨S300x128, .f32⟩
  | .hbm, ⟨85, _⟩ => ⟨S300x128, .f32⟩
  | .hbm, ⟨86, _⟩ => ⟨S300, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S1, .f32⟩
  | .hbm, ⟨92, _⟩ => ⟨S300, .f32⟩
  | .hbm, ⟨93, _⟩ => ⟨S300, .f32⟩
  | .hbm, ⟨94, _⟩ => ⟨S300, .f32⟩
  | .hbm, ⟨95, _⟩ => ⟨S_, .f32⟩
  | .hbm, ⟨96, _⟩ => ⟨S_, .f32⟩
  | .hbm, ⟨97, _⟩ => ⟨S1, .f32⟩
  | .hbm, ⟨98, _⟩ => ⟨S300, .f32⟩
  | .hbm, ⟨99, _⟩ => ⟨S300, .f32⟩
  | _, _ => ⟨S1000x310, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_c : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_0 : Ref sig .tc := ⟨.hbm, 27, rfl⟩
abbrev main_v16 : Ref sig .tc := ⟨.hbm, 28, rfl⟩
abbrev main_v17 : Ref sig .tc := ⟨.hbm, 29, rfl⟩
abbrev main_c_1 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_cst_2 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_4 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_call0_cst : Ref sig .tc := ⟨.hbm, 55, rfl⟩
abbrev main_call0_v0 : Ref sig .tc := ⟨.hbm, 56, rfl⟩
abbrev main_v38 : Ref sig .tc := ⟨.hbm, 57, rfl⟩
abbrev main_v39 : Ref sig .tc := ⟨.hbm, 58, rfl⟩
abbrev main_cst_5 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_call1_v0 : Ref sig .tc := ⟨.hbm, 64, rfl⟩
abbrev main_call1_c : Ref sig .tc := ⟨.hbm, 65, rfl⟩
abbrev main_call1_c_0 : Ref sig .tc := ⟨.hbm, 66, rfl⟩
abbrev main_call1_v1_0 : Ref sig .tc := ⟨.hbm, 67, rfl⟩
abbrev main_v43 : Ref sig .tc := ⟨.hbm, 68, rfl⟩
abbrev main_c_7 : Ref sig .tc := ⟨.hbm, 69, rfl⟩
abbrev main_v44 : Ref sig .tc := ⟨.hbm, 70, rfl⟩
abbrev main_c_8 : Ref sig .tc := ⟨.hbm, 71, rfl⟩
abbrev main_v45 : Ref sig .tc := ⟨.hbm, 72, rfl⟩
abbrev main_v46 : Ref sig .tc := ⟨.hbm, 73, rfl⟩
abbrev main_c_9 : Ref sig .tc := ⟨.hbm, 74, rfl⟩
abbrev main_c_10 : Ref sig .tc := ⟨.hbm, 75, rfl⟩
abbrev main_v47 : Ref sig .tc := ⟨.hbm, 76, rfl⟩
abbrev main_c_11 : Ref sig .tc := ⟨.hbm, 77, rfl⟩
abbrev main_c_12 : Ref sig .tc := ⟨.hbm, 78, rfl⟩
abbrev main_v48 : Ref sig .tc := ⟨.hbm, 79, rfl⟩
abbrev main_c_13 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_cst_14 : Ref sig .tc := ⟨.hbm, 87, rfl⟩
abbrev main_v55 : Ref sig .tc := ⟨.hbm, 88, rfl⟩
abbrev main_cst_15 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_cst_16 : Ref sig .tc := ⟨.hbm, 95, rfl⟩
abbrev main_v61 : Ref sig .tc := ⟨.hbm, 96, rfl⟩
abbrev main_v62 : Ref sig .tc := ⟨.hbm, 97, rfl⟩
abbrev main_v63 : Ref sig .tc := ⟨.hbm, 98, rfl⟩
abbrev main_v64 : Ref sig .tc := ⟨.hbm, 99, rfl⟩

abbrev nD : Nat := 1
abbrev τ : Topo := Topo.v7x

variable {F : FTy → Type} [FloatOps F]
-- ==== Proof.KerFn.lean ====
/- What the kernel computes, as a function of its arguments. -/
module

public import proofs.«01_k».proof.Proof.Gen.KernelIdeal.Skeleton
public import proofs.«01_k».proof.Defs

@[expose] public section

noncomputable section

namespace Cert.Proof.Ker

open Cert.KernelIdeal Cert.KernelIdeal.Gen Idealize.ShloMosaic

/-- The first sixteen columns of the state: what the kernel is given of it. -/
def cols (x : FVec Ideal S1000x310 .f32) : FVec Ideal S1000x16 .f32 := extractStridedSlice S1000x16 ![0, 0] x slices_S1000x310_S1000x16_0_0

/-- A bias as a row. -/
def asRow (b : FVec Ideal S128 .f32) : FVec Ideal S1x128 .f32 := shapeCast S1x128 b shapeCasts_S128_S1x128

/-- The workers' hidden rows, from their own parts and the part they share. -/
def rows (own : FVec Ideal S300x128 .f32) (shared : FVec Ideal S1x128 .f32) : FVec Ideal S300x128 .f32 :=
  maximumf (addf own (broadcastTo S300x128 shared broadcasts_S1x128_S300x128)) (broadcast S300x128 (Scalar.ofBits (F := Ideal) .f32 0x00000000#32))

/-- The scores: the shift's hidden row through the decoder, against every worker's. -/
def scores (one : FVec Ideal S1x128 .f32) (all : FVec Ideal S300x128 .f32) (Wdec : FVec Ideal S128x128 .f32) : FVec Ideal S1x300 .f32 :=
  matmul dot_S1x128_S300x128_S1x300_1_1_0_0_n_n none
    (matmul dot_S1x128_S128x128_S1x128_1_1_0_0_n_n none one Wdec (constant (F := Ideal) S1x128 .f32 0x00000000#32)) all
    (constant (F := Ideal) S1x300 .f32 0x00000000#32)

/-- The largest score. -/
def top (t : FVec Ideal S1x300 .f32) : FVec Ideal S1 .f32 :=
  multiReduction .maximumf [1] S1 t 0xFF800000#32 reduces_S1x300_S1 (.inl rfl) rfl

/-- The exponentials of the scores less their largest. -/
def powers (t : FVec Ideal S1x300 .f32) : FVec Ideal S1x300 .f32 :=
  exp (subf t (broadcastTo S1x300 (shapeCast S1x1 (top t) shapeCasts_S1_S1x1) broadcasts_S1x1_S1x300))

/-- The softmax of the scores. -/
def softmax (t : FVec Ideal S1x300 .f32) : FVec Ideal S1x300 .f32 :=
  divf (powers t) (broadcastTo S1x300 (shapeCast S1x1 (multiReduction .add [1] S1 (powers t) 0x00000000#32 reduces_S1x300_S1 (.inl rfl) rfl)
    shapeCasts_S1_S1x1) broadcasts_S1x1_S1x300)

/-- The last part of the body is the softmax of the scores. -/
theorem tail_eq (one : FVec Ideal S1x128 .f32) (own : FVec Ideal S300x128 .f32) (shared : FVec Ideal S1x128 .f32) (Wdec : FVec Ideal S128x128 .f32) :
    k0_pay1 (F := Ideal) one own shared Wdec = softmax (scores one (rows own shared) Wdec) := rfl

/-- What the body computes from its eight arrays. -/
def body (x0 : FVec Ideal S1000x16 .f32) (Ws : FVec Ideal S10x128 .f32) (bs : FVec Ideal S1x128 .f32) (Ww : FVec Ideal S300x128 .f32)
    (bw : FVec Ideal S1x128 .f32) (Wagg Wself Wdec : FVec Ideal S128x128 .f32) : FVec Ideal S1x300 .f32 :=
  k0_pay1 (F := Ideal) (k0_pay4 x0 bs bw Ws Ww Wagg Wself) (k0_pay5 bw Ww Wself) (k0_pay6 x0 bs Ws Wagg) Wdec

/-- The kernel's result as a function of its arguments. -/
def out (x : FVec Ideal S1000x310 .f32) (Ws : FVec Ideal S10x128 .f32) (bs : FVec Ideal S128 .f32) (Ww : FVec Ideal S300x128 .f32)
    (bw : FVec Ideal S128 .f32) (Wagg Wself Wdec : FVec Ideal S128x128 .f32) : FVec Ideal S300 .f32 :=
  shapeCast S300 (body (cols x) Ws (asRow bs) Ww (asRow bw) Wagg Wself Wdec) shapeCasts_S1x300_S300

end Cert.Proof.Ker

end
-- ==== Proof.Consts.lean ====
/- The values of the constants that the programs write as bit patterns. -/
module

public import proofs.«01_k».proof.Defs

@[expose] public section

noncomputable section

namespace Cert.Proof

open Idealize.ShloMosaic

/-- The pattern of the largest value is infinity. -/
theorem inf_bits : Ideal.ofBits .f32 0x7F800000#32 = ⊤ := by
  simp [Ideal.ofBits, Ideal.ieee]

/-- The pattern that a maximum starts from is minus infinity. -/
theorem neg_inf_bits : Ideal.ofBits .f32 0xFF800000#32 = ⊥ := by
  simp [Ideal.ofBits, Ideal.ieee]

/-- The pattern of the number of workers. -/
theorem workers_bits : Ideal.ofBits .f32 0x43960000#32 = ((300 : ℝ) : EReal) := by
  simp [Ideal.ofBits, Ideal.ieee, -EReal.coe_mul]
  norm_num

/-- A real number divided by one that is not zero. -/
theorem div_real (a : ℝ) {b : ℝ} (h : b ≠ 0) : Ideal.div (a : EReal) (b : EReal) = ((a / b : ℝ) : EReal) := by
  rw [Ideal.div_coe h, ← EReal.coe_mul]
  congr 1
  ring

/-- The larger of two real numbers. -/
theorem max_real (a b : ℝ) : max (a : EReal) (b : EReal) = ((max a b : ℝ) : EReal) := (EReal.coe_strictMono.monotone.map_max).symm

/-- The sum of real numbers, summed as extended reals. -/
theorem coe_sum {ι : Type} (s : Finset ι) (g : ι → ℝ) : ((∑ i ∈ s, g i : ℝ) : EReal) = ∑ i ∈ s, (g i : EReal) :=
  map_sum (⟨⟨fun r : ℝ => (r : EReal), EReal.coe_zero⟩, EReal.coe_add⟩ : ℝ →+ EReal) g s

/-- A row times a column, of real numbers. -/
theorem dot_real {n : Nat} (a b : Fin n → ℝ) : ∑ k, ((a k : EReal) * (b k : EReal)) = ((∑ k, a k * b k : ℝ) : EReal) := by
  rw [coe_sum]
  exact Finset.sum_congr rfl fun k _ => (EReal.coe_mul _ _).symm

end Cert.Proof

end
-- ==== Proof.Pre.lean ====
/- What the precondition says, entry by entry: the edge lists are the complete bipartite graph's, the first shift has no
   worker, and the arrays the program computes with hold real numbers. -/
module

public import proofs.«01_k».proof.Defs
public import proofs.«01_k».proof.Proof.Consts
public import proofs.«01_k».proof.Proof.Gen.Pre_drawn
public import Idealize.ShloMosaic.Lib.Pointwise
public import Idealize.ShloMosaic.Lib.ReduceAll
public import Idealize.ShloMosaic.Lib.Affine
public import Idealize.ShloMosaic.Lib.Routing.Words

@[expose] public section

set_option maxRecDepth 16384

noncomputable section

namespace Cert.Proof.Pre

open Cert.Pre_drawn Cert.Pre_drawn.Gen Idealize.ShloMosaic

/-- The source of edge `e`: the shifts first, each to every worker, then the workers, each to every shift. -/
def srcOf (e : Nat) : Nat := if e < 300000 then e / 300 else 1000 + e % 300

/-- The target of edge `e`. -/
def dstOf (e : Nat) : Nat := if e < 300000 then 1000 + e % 300 else (e - 300000) / 300

/-- Every entry of an array is a real number. -/
def AllReal {s : Shape} (x : FVec Ideal s .f32) : Prop := ∀ i, ∃ r : ℝ, x i = (r : EReal)

/-- The facts of the precondition. -/
structure Drawn (x : FVec Ideal S1000x310 .f32) (Ws : FVec Ideal S10x128 .f32) (bs : FVec Ideal S128 .f32)
    (Ww : FVec Ideal S300x128 .f32) (bw : FVec Ideal S128 .f32) (Wagg Wself Wdec : FVec Ideal S128x128 .f32)
    (src dst : IVec S600000 32) : Prop where
  /-- the sources -/
  src_eq : ∀ e : Fin 600000, src (ix1 e) = BitVec.ofNat 32 (srcOf e.val)
  /-- the targets -/
  dst_eq : ∀ e : Fin 600000, dst (ix1 e) = BitVec.ofNat 32 (dstOf e.val)
  /-- the first shift has no worker: its assignment columns sum to zero -/
  empty : ∑ k : Fin 300, x (ix2 (0 : Fin 1000) (⟨10 + k.val, by omega⟩ : Fin 310)) = 0
  /-- the shifts' features -/
  state : ∀ (i : Fin 1000) (k : Fin 10), ∃ r : ℝ, x (ix2 i (⟨k.val, by omega⟩ : Fin 310)) = (r : EReal)
  /-- the shift weights -/
  ws : AllReal Ws
  /-- the shift bias -/
  bs : AllReal bs
  /-- the worker weights -/
  ww : AllReal Ww
  /-- the worker bias -/
  bw : AllReal bw
  /-- the weights of the mean message -/
  wagg : AllReal Wagg
  /-- the weights of a node's own row -/
  wself : AllReal Wself
  /-- the decoder -/
  wdec : AllReal Wdec

/-- A value whose magnitude is below infinity is a real number. -/
theorem real_of_abs {v : EReal} (h : Ideal.cmp .olt (max v (-v)) ⊤ = 1#1) : ∃ r : ℝ, v = (r : EReal) := by
  induction v using EReal.rec with
  | bot => simp [Ideal.cmp] at h
  | top => simp [Ideal.cmp] at h
  | coe r => exact ⟨r, rfl⟩

/-- The test of the precondition on one array, read entry by entry. -/
theorem real_of_test {s : Shape} (x : FVec Ideal s .f32) (hb : S_.BroadcastsInDim s (![] : Fin 0 → Fin s.rank)) {axes : List (Fin s.rank)}
    (h : s.ReducesTo axes S_) (j : S_.Idx)
    (e : Host.reduce IntOp.andi (cmpf .olt (Host.absf x) (broadcastInDim s ![] hb (constant (F := Ideal) S_ .f32 0x7F800000#32)))
      (constantI S_ 1 1#1) h h_S_ j = 1#1) : AllReal x := by
  intro i
  have hs : Subsingleton S_.Idx := ⟨fun a b => funext fun k => k.elim0⟩
  have t := Host.reduce_andi_all _ _ h h_S_ j e i
  refine real_of_abs ?_
  rw [← inf_bits]
  exact t

/-- The word of edge `e`'s shift. -/
theorem shift_word (e : Fin 600000) : IntOp.divsi .host (IntOp.remsi .host (BitVec.ofNat 32 e.val) 300000#32) 300#32
    = BitVec.ofNat 32 (e.val % 300000 / 300) := by
  have he := e.isLt
  rw [show (300000#32) = BitVec.ofNat 32 300000 from rfl, Routing.remsi_word _ (by omega) (by omega) (by omega),
    show (300#32) = BitVec.ofNat 32 300 from rfl, Routing.divsi_word _ (by omega) (by omega) (by omega)]

/-- The word of edge `e`'s worker. -/
theorem worker_word (e : Fin 600000) : IntOp.addi (IntOp.remsi .host (BitVec.ofNat 32 e.val) 300#32) 1000#32
    = BitVec.ofNat 32 (1000 + e.val % 300) := by
  have he := e.isLt
  rw [show (300#32) = BitVec.ofNat 32 300 from rfl, Routing.remsi_word _ (by omega) (by omega) (by omega)]
  show BitVec.ofNat 32 _ + BitVec.ofNat 32 1000 = _
  rw [← BitVec.ofNat_add, Nat.add_comm]

/-- The choice between an edge of the first half and one of the second. -/
theorem half_word (e : Fin 600000) (a b : BitVec 32) : Scalar.select (IntOp.cmpi .slt (BitVec.ofNat 32 e.val) 300000#32) a b
    = if e.val < 300000 then a else b := by
  have he := e.isLt
  rw [show (300000#32) = BitVec.ofNat 32 300000 from rfl, WordCmp.cmpi_slt_ofNat (w := 32) (by omega) (by decide), WordCmp.select_decide]

/-- The precondition's facts. -/
theorem drawn (x : FVec Ideal S1000x310 .f32) (Ws : FVec Ideal S10x128 .f32) (bs : FVec Ideal S128 .f32)
    (Ww : FVec Ideal S300x128 .f32) (bw : FVec Ideal S128 .f32) (Wagg Wself Wdec : FVec Ideal S128x128 .f32)
    (src dst : IVec S600000 32)
    (h : fn (F := Ideal) x Ws bs Ww bw Wagg Wself Wdec src dst = fun _ => 1#1) : Drawn x Ws bs Ww bw Wagg Wself Wdec src dst := by
  have e := congrFun h ix0
  simp only [fn, fn_part1, fn_part2, fn_part3, fn_where, andi_apply, IntOp.andi_eq_one] at e
  obtain ⟨⟨⟨⟨⟨⟨⟨⟨⟨hg, hf⟩, h0⟩, h1⟩, h2⟩, h3⟩, h4⟩, h5⟩, h6⟩, h7⟩ := e
  have hs : Subsingleton S_.Idx := ⟨fun a b => funext fun k => k.elim0⟩
  have graph := fun e : Fin 600000 => IntOp.andi_eq_one.1 (Host.reduce_andi_all _ _ _ _ _ hg (ix1 e))
  have feats := real_of_test _ _ _ _ h0
  refine ⟨fun e => ?_, fun e => ?_, ?_, fun i k => ?_, real_of_test _ _ _ _ h1, real_of_test _ _ _ _ h2,
    real_of_test _ _ _ _ h3, real_of_test _ _ _ _ h4, real_of_test _ _ _ _ h5, real_of_test _ _ _ _ h6, real_of_test _ _ _ _ h7⟩
  · have g : src (ix1 e) = Scalar.select (IntOp.cmpi .slt (BitVec.ofNat 32 e.val) 300000#32)
        (IntOp.divsi .host (IntOp.remsi .host (BitVec.ofNat 32 e.val) 300000#32) 300#32)
        (IntOp.addi (IntOp.remsi .host (BitVec.ofNat 32 e.val) 300#32) 1000#32) := IntOp.cmpi_eq.1 (graph e).1
    rw [g, shift_word, worker_word, half_word, srcOf]
    split
    · next hlt => rw [Nat.mod_eq_of_lt hlt]
    · rfl
  · have g : dst (ix1 e) = Scalar.select (IntOp.cmpi .slt (BitVec.ofNat 32 e.val) 300000#32)
        (IntOp.addi (IntOp.remsi .host (BitVec.ofNat 32 e.val) 300#32) 1000#32)
        (IntOp.divsi .host (IntOp.remsi .host (BitVec.ofNat 32 e.val) 300000#32) 300#32) := IntOp.cmpi_eq.1 (graph e).2
    rw [g, shift_word, worker_word, half_word, dstOf]
    split
    · rfl
    · next hge =>
      have he := e.isLt
      rw [show e.val % 300000 = e.val - 300000 by omega]
  · pointwise [] at hf
    exact (WordCmp.ofBool_decide_eq_one_iff _).1 hf
  · have f := feats (ix2 i k)
    pointwise [] at f
    exact f

end Cert.Proof.Pre

end
-- ==== Proof.Model.lean ====
/- The computation over the real numbers: what both programs' scores come to when the arrays hold real numbers. -/
module

public import proofs.«01_k».proof.Proof.Pre

@[expose] public section

noncomputable section

namespace Cert.Proof

open Idealize.ShloMosaic

/-- The real numbers the arrays hold. -/
structure Reals where
  /-- the shifts' features -/
  f : Fin 1000 → Fin 10 → ℝ
  /-- the shift weights -/
  ws : Fin 10 → Fin 128 → ℝ
  /-- the shift bias -/
  bs : Fin 128 → ℝ
  /-- the worker weights -/
  ww : Fin 300 → Fin 128 → ℝ
  /-- the worker bias -/
  bw : Fin 128 → ℝ
  /-- the weights of the mean message -/
  wagg : Fin 128 → Fin 128 → ℝ
  /-- the weights of a node's own row -/
  wself : Fin 128 → Fin 128 → ℝ
  /-- the decoder -/
  wdec : Fin 128 → Fin 128 → ℝ

namespace Reals

variable (R : Reals)

/-- The embedded shift `i`. -/
def shift (i : Fin 1000) (d : Fin 128) : ℝ := ∑ k, R.f i k * R.ws k d + R.bs d

/-- The embedded worker `j`. -/
def worker (j : Fin 300) (d : Fin 128) : ℝ := R.ww j d + R.bw d

/-- The mean of the shifts. -/
def shiftMean (d : Fin 128) : ℝ := (∑ i, R.shift i d) / 1000

/-- The mean of the workers. -/
def workerMean (d : Fin 128) : ℝ := (∑ j, R.worker j d) / 300

/-- The hidden row of the first shift. -/
def hiddenShift (d : Fin 128) : ℝ := max (∑ k, R.workerMean k * R.wagg k d + ∑ k, R.shift 0 k * R.wself k d) 0

/-- The hidden row of worker `j`. -/
def hiddenWorker (j : Fin 300) (d : Fin 128) : ℝ := max (∑ k, R.shiftMean k * R.wagg k d + ∑ k, R.worker j k * R.wself k d) 0

/-- The score of worker `j`. -/
def score (j : Fin 300) : ℝ := ∑ d, (∑ k, R.hiddenWorker j k * R.wdec k d) * R.hiddenShift d

/-- The mean of the embedded shifts is the embedding of their mean. -/
theorem shiftMean_eq (d : Fin 128) : R.shiftMean d = ∑ k, ((∑ i, R.f i k) * (1000 : ℝ)⁻¹) * R.ws k d + R.bs d := by
  unfold shiftMean shift
  rw [Finset.sum_add_distrib, Finset.sum_comm, Finset.sum_const, Finset.card_univ, Fintype.card_fin, add_div, Finset.sum_div]
  congr 1
  · refine Finset.sum_congr rfl fun k _ => ?_
    rw [← Finset.sum_mul]
    ring
  · rw [nsmul_eq_mul]
    norm_num

/-- The mean of the embedded workers is the embedding of their mean. -/
theorem workerMean_eq (d : Fin 128) : R.workerMean d = (∑ j, R.ww j d) / 300 + R.bw d := by
  unfold workerMean worker
  rw [Finset.sum_add_distrib, Finset.sum_const, Finset.card_univ, Fintype.card_fin, add_div]
  congr 1
  rw [nsmul_eq_mul]
  norm_num

/-- The score, the decoder applied to the shift's row instead of the worker's. -/
theorem score_eq (j : Fin 300) : R.score j = ∑ k, (∑ d, R.hiddenShift d * R.wdec k d) * R.hiddenWorker j k := by
  unfold score
  simp only [Finset.sum_mul]
  rw [Finset.sum_comm]
  refine Finset.sum_congr rfl fun k _ => Finset.sum_congr rfl fun d _ => ?_
  ring

end Reals

/-- The arrays hold the numbers of `R`. -/
structure Holds (R : Reals) (x : FVec Ideal ⟨2, ![1000, 310]⟩ .f32) (Ws : FVec Ideal ⟨2, ![10, 128]⟩ .f32) (bs : FVec Ideal ⟨1, ![128]⟩ .f32)
    (Ww : FVec Ideal ⟨2, ![300, 128]⟩ .f32) (bw : FVec Ideal ⟨1, ![128]⟩ .f32) (Wagg Wself Wdec : FVec Ideal ⟨2, ![128, 128]⟩ .f32) : Prop where
  /-- the shifts' features -/
  f : ∀ (i : Fin 1000) (k : Fin 10) (h : k.val < 310), x (ix2 i (⟨k.val, h⟩ : Fin 310)) = (R.f i k : EReal)
  /-- the shift weights -/
  ws : ∀ (k : Fin 10) (d : Fin 128), Ws (ix2 k d) = (R.ws k d : EReal)
  /-- the shift bias -/
  bs : ∀ d : Fin 128, bs (ix1 d) = (R.bs d : EReal)
  /-- the worker weights -/
  ww : ∀ (j : Fin 300) (d : Fin 128), Ww (ix2 j d) = (R.ww j d : EReal)
  /-- the worker bias -/
  bw : ∀ d : Fin 128, bw (ix1 d) = (R.bw d : EReal)
  /-- the weights of the mean message -/
  wagg : ∀ k d : Fin 128, Wagg (ix2 k d) = (R.wagg k d : EReal)
  /-- the weights of a node's own row -/
  wself : ∀ k d : Fin 128, Wself (ix2 k d) = (R.wself k d : EReal)
  /-- the decoder -/
  wdec : ∀ k d : Fin 128, Wdec (ix2 k d) = (R.wdec k d : EReal)

/-- Arrays that meet the precondition hold real numbers. -/
theorem holds_of_drawn {x : FVec Ideal ⟨2, ![1000, 310]⟩ .f32} {Ws : FVec Ideal ⟨2, ![10, 128]⟩ .f32} {bs : FVec Ideal ⟨1, ![128]⟩ .f32}
    {Ww : FVec Ideal ⟨2, ![300, 128]⟩ .f32} {bw : FVec Ideal ⟨1, ![128]⟩ .f32} {Wagg Wself Wdec : FVec Ideal ⟨2, ![128, 128]⟩ .f32}
    {src dst : IVec ⟨1, ![600000]⟩ 32} (h : Pre.Drawn x Ws bs Ww bw Wagg Wself Wdec src dst) : ∃ R, Holds R x Ws bs Ww bw Wagg Wself Wdec := by
  choose f hf using h.state
  choose ws hws using h.ws
  choose bs' hbs using h.bs
  choose ww hww using h.ww
  choose bw' hbw using h.bw
  choose wa hwa using h.wagg
  choose wf hwf using h.wself
  choose wd hwd using h.wdec
  exact ⟨⟨f, fun k d => ws (ix2 k d), fun d => bs' (ix1 d), fun j d => ww (ix2 j d), fun d => bw' (ix1 d), fun k d => wa (ix2 k d),
      fun k d => wf (ix2 k d), fun k d => wd (ix2 k d)⟩,
    fun i k _ => hf i k, fun _ _ => hws _, fun _ => hbs _, fun _ _ => hww _, fun _ => hbw _, fun _ _ => hwa _, fun _ _ => hwf _, fun _ _ => hwd _⟩

end Cert.Proof

end
-- ==== Proof.KerValue.lean ====
/- The kernel's scores over arrays of real numbers. -/
module

public import proofs.«01_k».proof.Proof.KerFn
public import proofs.«01_k».proof.Proof.Model
public import Idealize.ShloMosaic.Lib.Pointwise

@[expose] public section

set_option maxRecDepth 16384

noncomputable section

namespace Cert.Proof.Ker

open Cert.KernelIdeal Cert.KernelIdeal.Gen Idealize.ShloMosaic

variable {R : Reals} {x : FVec Ideal S1000x310 .f32} {Ws : FVec Ideal S10x128 .f32} {bs : FVec Ideal S128 .f32} {Ww : FVec Ideal S300x128 .f32}
  {bw : FVec Ideal S128 .f32} {Wagg Wself Wdec : FVec Ideal S128x128 .f32}

/-- The named constant is the reciprocal of the number of shifts. -/
theorem inv_s : (Named.named κ "inv_s" 0x3A83126F#32 : Ideal .f32) = ((1000⁻¹ : ℝ) : EReal) :=
  IdealRules.named_const.ideal_named_scalar _ _ _ _ rfl

/-- A bias laid out as a row. -/
theorem asRow_apply (b : FVec Ideal S128 .f32) (d : Fin 128) : asRow b (ix2 (0 : Fin 1) d) = b (ix1 d) := by
  pointwise [asRow]

/-- The first of the two embedded rows: the mean of the shifts. -/
theorem pay3_mean (h : Holds R x Ws bs Ww bw Wagg Wself Wdec) (d : Fin 128) :
    k0_pay3 (F := Ideal) (cols x) (asRow bs) Ws (ix2 (0 : Fin 2) d) = (R.shiftMean d : EReal) := by
  pointwise [k0_pay3, cols, asRow]
  simp only [h.f, h.ws, h.bs, inv_s]
  rw [R.shiftMean_eq]
  simp only [← coe_sum, ← EReal.coe_mul, ← EReal.coe_add]

/-- The second: the first shift. -/
theorem pay3_shift (h : Holds R x Ws bs Ww bw Wagg Wself Wdec) (d : Fin 128) :
    k0_pay3 (F := Ideal) (cols x) (asRow bs) Ws (ix2 (1 : Fin 2) d) = (R.shift 0 d : EReal) := by
  pointwise [k0_pay3, cols, asRow]
  simp only [h.f, h.ws, h.bs, dot_real, ← EReal.coe_add]
  rfl

/-- The hidden row of the first shift. -/
theorem pay4_apply (h : Holds R x Ws bs Ww bw Wagg Wself Wdec) (d : Fin 128) :
    k0_pay4 (F := Ideal) (cols x) (asRow bs) (asRow bw) Ws Ww Wagg Wself (ix2 (0 : Fin 1) d) = (R.hiddenShift d : EReal) := by
  pointwise [k0_pay4, k0_pay2]
  simp only [asRow_apply, pay3_shift h, h.ww, h.bw, h.wagg, h.wself, workers_bits, ← coe_sum, div_real _ (show (300 : ℝ) ≠ 0 by norm_num), ← EReal.coe_add,
    ← R.workerMean_eq, dot_real, ← EReal.coe_zero, max_real]
  rfl

/-- A worker's own part of its hidden row. -/
theorem pay5_apply (h : Holds R x Ws bs Ww bw Wagg Wself Wdec) (j : Fin 300) (d : Fin 128) :
    k0_pay5 (F := Ideal) (asRow bw) Ww Wself (ix2 j d) = ((∑ k, R.worker j k * R.wself k d : ℝ) : EReal) := by
  pointwise [k0_pay5, k0_pay2, asRow]
  simp only [h.ww, h.bw, h.wself, ← EReal.coe_add, dot_real]
  rfl

/-- The part that all workers share. -/
theorem pay6_apply (h : Holds R x Ws bs Ww bw Wagg Wself Wdec) (d : Fin 128) :
    k0_pay6 (F := Ideal) (cols x) (asRow bs) Ws Wagg (ix2 (0 : Fin 1) d) = ((∑ k, R.shiftMean k * R.wagg k d : ℝ) : EReal) := by
  pointwise [k0_pay6]
  simp only [pay3_mean h, h.wagg, dot_real]

/-- The hidden row of a worker. -/
theorem rows_apply (h : Holds R x Ws bs Ww bw Wagg Wself Wdec) (j : Fin 300) (d : Fin 128) :
    rows (k0_pay5 (F := Ideal) (asRow bw) Ww Wself) (k0_pay6 (F := Ideal) (cols x) (asRow bs) Ws Wagg) (ix2 j d) = (R.hiddenWorker j d : EReal) := by
  pointwise [rows]
  rw [pay5_apply h, pay6_apply h, ← EReal.coe_add, ← EReal.coe_zero, max_real, add_comm]
  rfl

/-- The kernel's scores. -/
theorem scores_apply (h : Holds R x Ws bs Ww bw Wagg Wself Wdec) (j : Fin 300) :
    scores (k0_pay4 (F := Ideal) (cols x) (asRow bs) (asRow bw) Ws Ww Wagg Wself)
      (rows (k0_pay5 (F := Ideal) (asRow bw) Ww Wself) (k0_pay6 (F := Ideal) (cols x) (asRow bs) Ws Wagg)) Wdec (ix2 (0 : Fin 1) j)
      = (R.score j : EReal) := by
  pointwise [scores]
  simp only [pay4_apply h, rows_apply h, h.wdec, dot_real]
  rw [R.score_eq]

end Cert.Proof.Ker

end
-- ==== Proof.RefFn.lean ====
/- What the reference program computes, as functions of its arguments, stage by stage. Each is the composition of the
   program's own array operations; nothing is simplified here. -/
module

public import proofs.«01_k».proof.Proof.Gen.ReferenceIdeal
public import proofs.«01_k».proof.Defs

@[expose] public section

noncomputable section

namespace Cert.Proof.Ref

open Cert.ReferenceIdeal Cert.ReferenceIdeal.Gen Idealize.ShloMosaic

/-- Two blocks of rows, one above the other: the shifts' rows and then the workers' rows. -/
def stack {F : FTy → Type} [FloatOps F] :
    (⟨S1000x128, .f32⟩ : BufTy).Contents (Elt F) → (⟨S300x128, .f32⟩ : BufTy).Contents (Elt F) → (⟨S1300x128, .f32⟩ : BufTy).Contents (Elt F) :=
  fun a b => concatenate S1300x128 0 [⟨S1000x128, a⟩, ⟨S300x128, b⟩] concatenates_S1000x128_S300x128_S1300x128_d0

/-- The embedded shifts: the first ten columns of the state times the shift weights, plus the shift bias. -/
def shifts (x : FVec Ideal S1000x310 .f32) (Ws : FVec Ideal S10x128 .f32) (bs : FVec Ideal S128 .f32) : FVec Ideal S1000x128 .f32 :=
  addf (Host.dotGeneral dot_S1000x10_S10x128_S1000x128_1_0_0_1_n_n none (extractStridedSlice S1000x10 ![0, 0] x slices_S1000x310_S1000x10_0_0) Ws)
    (broadcastInDim S1000x128 ![0, 1] bcast_S1x128_S1000x128_0_1 (broadcastInDim S1x128 ![1] bcast_S128_S1x128_1 bs))

/-- The identity matrix on the workers, as the program writes it. -/
def eye : FVec Ideal S300x300 .f32 :=
  uitofp .f32 (cmpi .eq (addi (iotaInDim S300x300 32 0) (broadcastInDim S300x300 ![] bcast_S_S300x300 (constantI S_ 32 0#32))) (iotaInDim S300x300 32 1))

/-- The embedded workers: the identity times the worker weights, plus the worker bias. -/
def workers (Ww : FVec Ideal S300x128 .f32) (bw : FVec Ideal S128 .f32) : FVec Ideal S300x128 .f32 :=
  addf (Host.dotGeneral dot_S300x300_S300x128_S300x128_1_0_0_1_n_n none eye Ww)
    (broadcastInDim S300x128 ![0, 1] bcast_S1x128_S300x128_0_1 (broadcastInDim S1x128 ![1] bcast_S128_S1x128_1 bw))

/-- The source list with each negative entry counted from the end. -/
def wrapped (src : IVec S600000 32) : IVec S600000 32 :=
  select (cmpi .slt src (broadcastInDim S600000 ![] bcast_S_S600000 (constantI S_ 32 0#32)))
    (addi src (broadcastInDim S600000 ![] bcast_S_S600000 (constantI S_ 32 1300#32))) src

/-- A list of entries as a column. -/
def column (e : IVec S600000 32) : IVec S600000x1 32 := broadcastInDim S600000x1 ![0] bcast_S600000_S600000x1_0 e

/-- The sum, at each node, of the rows of the sources of the edges that end at the node. -/
def gathered (n : FVec Ideal S1300x128 .f32) (src dst : IVec S600000 32) : FVec Ideal S1300x128 .f32 :=
  Host.scatterAdd scatter_S1300x128_S600000x1_S600000x128_1_0_0_1
    (broadcastInDim S1300x128 ![] bcast_S_S1300x128 (constant S_ .f32 0x00000000#32)) (column dst)
    (Host.gather gather_S1300x128_S600000x1_S600000x128_1_0_n_n_0_1_1128 n (column (wrapped src)))

/-- The number of edges that end at each node, and one where there is none. -/
def degree (dst : IVec S600000 32) : FVec Ideal S1300 .f32 :=
  maximumf (Host.scatterAdd scatter_S1300_S600000x1_S600000_n_0_0_1
    (broadcastInDim S1300 ![] bcast_S_S1300 (constant S_ .f32 0x00000000#32)) (column dst)
    (broadcastInDim S600000 ![] bcast_S_S600000 (constant S_ .f32 0x3F800000#32)))
    (broadcastInDim S1300 ![] bcast_S_S1300 (constant S_ .f32 0x3F800000#32))

/-- The mean of the messages at each node. -/
def mean (n : FVec Ideal S1300x128 .f32) (src dst : IVec S600000 32) : FVec Ideal S1300x128 .f32 :=
  Host.divf (gathered n src dst)
    (broadcastInDim S1300x128 ![0, 1] bcast_S1300x1_S1300x128_0_1 (broadcastInDim S1300x1 ![0] bcast_S1300_S1300x1_0 (degree dst)))

/-- The hidden rows: relu of the mean message times one matrix plus the node's own row times another. -/
def hidden (n : FVec Ideal S1300x128 .f32) (Wagg Wself : FVec Ideal S128x128 .f32) (src dst : IVec S600000 32) : FVec Ideal S1300x128 .f32 :=
  maximumf (addf (Host.dotGeneral dot_S1300x128_S128x128_S1300x128_1_0_0_1_n_n none (mean n src dst) Wagg)
      (Host.dotGeneral dot_S1300x128_S128x128_S1300x128_1_0_0_1_n_n none n Wself))
    (broadcastInDim S1300x128 ![] bcast_S_S1300x128 (constant S_ .f32 0x00000000#32))

/-- Which shifts have no worker: the last 300 columns of the state sum to zero. -/
def free (x : FVec Ideal S1000x310 .f32) : IVec S1000 1 :=
  cmpf .oeq (Host.reduceAdd (extractStridedSlice S1000x300 ![0, 10] x slices_S1000x310_S1000x300_0_10) (constant S_ .f32 0x00000000#32) reducesTo_S1000x300_S1000_d1 h_S_)
    (broadcastInDim S1000 ![] bcast_S_S1000 (constant S_ .f32 0x00000000#32))

/-- The first shift with no worker, by the program's argmax. -/
def first (x : FVec Ideal S1000x310 .f32) : IVec S_ 32 :=
  fun j => (Host.reduce2 reducer_argmax_i1_i32 (free x) (iotaInDim S1000 32 0) (constantI S_ 1 0#1) (constantI S_ 32 0#32) reducesTo_S1000_S_d0 h_S_ j).2

/-- That number, counted from the end if it is negative. -/
def row (x : FVec Ideal S1000x310 .f32) : IVec S_ 32 :=
  select (cmpi .slt (first x) (constantI S_ 32 0#32)) (addi (first x) (constantI S_ 32 1300#32)) (first x)

/-- The first column of the row to be read. -/
def lane : IVec S_ 32 :=
  select (cmpi .slt (constantI S_ 32 0#32) (constantI S_ 32 0#32)) (addi (constantI S_ 32 0#32) (constantI S_ 32 128#32)) (constantI S_ 32 0#32)

/-- The hidden row of the chosen shift. -/
def chosen (h : FVec Ideal S1300x128 .f32) (r l : IVec S_ 32) : FVec Ideal S128 .f32 :=
  shapeCast S128 (Host.dynamicSlice S1x128 h (fun k => ((![r, l] : Fin 2 → IVec S_ 32) k (Shape.Idx.first h_S_)).toInt) sliceFits_S1300x128_S1x128)
    shapeCasts_S1x128_S128

/-- The scores of the workers: their hidden rows times the decoder matrix, times the chosen hidden row. -/
def logits (h : FVec Ideal S1300x128 .f32) (r l : IVec S_ 32) (Wdec : FVec Ideal S128x128 .f32) : FVec Ideal S300 .f32 :=
  Host.dotGeneral dot_S300x128_S128_S300_1_0_0_n_n_n none
    (Host.dotGeneral dot_S300x128_S128x128_S300x128_1_0_0_1_n_n none (extractStridedSlice S300x128 ![1000, 0] h slices_S1300x128_S300x128_1000_0) Wdec)
    (chosen h r l)

/-- The exponentials of the scores less their largest. -/
def powers (t : FVec Ideal S300 .f32) : FVec Ideal S300 .f32 :=
  Host.exp (subf t (broadcastInDim S300 ![0] bcast_S1_S300_0 (broadcastInDim S1 ![] bcast_S_S1
    (maximumf (constant S_ .f32 0xFF800000#32) (Host.reduce FloatOps.maximumf t (constant S_ .f32 0xFF800000#32) reducesTo_S300_S_d0 h_S_)))))

/-- The softmax of the scores. -/
def softmax (t : FVec Ideal S300 .f32) : FVec Ideal S300 .f32 :=
  Host.divf (powers t) (broadcastInDim S300 ![0] bcast_S1_S300_0 (broadcastInDim S1 ![] bcast_S_S1
    (Host.reduceAdd (powers t) (constant S_ .f32 0x00000000#32) reducesTo_S300_S_d0 h_S_)))

/-- The node features. -/
def nodes (x : FVec Ideal S1000x310 .f32) (Ws : FVec Ideal S10x128 .f32) (bs : FVec Ideal S128 .f32)
    (Ww : FVec Ideal S300x128 .f32) (bw : FVec Ideal S128 .f32) : FVec Ideal S1300x128 .f32 :=
  stack (F := Ideal) (shifts x Ws bs) (workers Ww bw)

/-- The reference's scores as a function of its ten arguments. -/
def scores (x : FVec Ideal S1000x310 .f32) (Ws : FVec Ideal S10x128 .f32) (bs : FVec Ideal S128 .f32)
    (Ww : FVec Ideal S300x128 .f32) (bw : FVec Ideal S128 .f32) (Wagg Wself Wdec : FVec Ideal S128x128 .f32)
    (src dst : IVec S600000 32) : FVec Ideal S300 .f32 :=
  logits (hidden (nodes x Ws bs Ww bw) Wagg Wself src dst) (row x) lane Wdec

end Cert.Proof.Ref

end
-- ==== Proof.Edges.lean ====
/- Sums over the edges of the complete bipartite graph: where an edge's message lands, and what each node receives. -/
module

public import proofs.«01_k».proof.Proof.RefFn
public import proofs.«01_k».proof.Proof.Pre
public import Idealize.ShloMosaic.Lib.Routing.Ops
public import Idealize.ShloMosaic.Lib.Routing.OpsPair

@[expose] public section

set_option maxRecDepth 16384

noncomputable section

namespace Cert.Proof.Edges

open Cert.ReferenceIdeal Cert.ReferenceIdeal.Gen Idealize.ShloMosaic Cert.Proof.Pre

/-- The message of edge `e`, at column `c`, lands on row `p` and column `d` exactly when the edge's target is `p` and the columns agree. -/
theorem lands_row (idx : IVec S600000x1 32) (e : Fin 600000) (c : Fin 128) (p : Fin 1300) (d : Fin 128) :
    scatter_S1300x128_S600000x1_S600000x128_1_0_0_1.resultIdx? (ix2 e c) idx = some (ix2 p d)
      ↔ (idx (ix2 e (0 : Fin 1))).toInt = (p.val : Int) ∧ c = d := by
  rw [Routing.resultIdx?_eq_some]
  have s0 : scatter_S1300x128_S600000x1_S600000x128_1_0_0_1.start (ix2 e c) idx 0 = (idx (ix2 e (0 : Fin 1))).toInt := by
    unfold ScatterDims.start
    rw [dif_pos (by decide)]
    refine congrArg (fun i => (idx i).toInt) (funext fun b => ?_)
    fin_cases b <;> rfl
  have s1 : scatter_S1300x128_S600000x1_S600000x128_1_0_0_1.start (ix2 e c) idx 1 = 0 := by
    unfold ScatterDims.start
    rw [dif_neg (by decide)]
  have w0 : scatter_S1300x128_S600000x1_S600000x128_1_0_0_1.window (ix2 e c) 0 = 0 := by
    unfold ScatterDims.window
    rw [dif_neg (by decide)]
  have w1 : scatter_S1300x128_S600000x1_S600000x128_1_0_0_1.window (ix2 e c) 1 = c.val := by
    unfold ScatterDims.window
    rw [dif_pos (by decide)]
    rfl
  constructor
  · intro h
    have h0 := h 0
    have h1 := h 1
    rw [s0, w0] at h0
    rw [s1, w1] at h1
    refine ⟨by simpa using h0, Fin.ext ?_⟩
    have h1' : ((0 : Int) + (c.val : Int)) = (d.val : Int) := h1
    omega
  · rintro ⟨h0, rfl⟩ a
    fin_cases a
    · show scatter_S1300x128_S600000x1_S600000x128_1_0_0_1.start (ix2 e c) idx 0 + (scatter_S1300x128_S600000x1_S600000x128_1_0_0_1.window (ix2 e c) 0 : Int) = (p.val : Int)
      rw [s0, w0, h0]; simp
    · show scatter_S1300x128_S600000x1_S600000x128_1_0_0_1.start (ix2 e c) idx 1 + (scatter_S1300x128_S600000x1_S600000x128_1_0_0_1.window (ix2 e c) 1 : Int) = (c.val : Int)
      rw [s1, w1]; simp

/-- Edge `e`'s one counts at node `p` exactly when the edge's target is `p`. -/
theorem lands_count (idx : IVec S600000x1 32) (e : Fin 600000) (p : Fin 1300) :
    scatter_S1300_S600000x1_S600000_n_0_0_1.resultIdx? (ix1 e) idx = some (ix1 p) ↔ (idx (ix2 e (0 : Fin 1))).toInt = (p.val : Int) := by
  rw [Routing.resultIdx?_eq_some]
  have s0 : scatter_S1300_S600000x1_S600000_n_0_0_1.start (ix1 e) idx 0 = (idx (ix2 e (0 : Fin 1))).toInt := by
    unfold ScatterDims.start
    rw [dif_pos (by decide)]
    refine congrArg (fun i => (idx i).toInt) (funext fun b => ?_)
    fin_cases b <;> rfl
  have w0 : scatter_S1300_S600000x1_S600000_n_0_0_1.window (ix1 e) 0 = 0 := by
    unfold ScatterDims.window
    rw [dif_neg (by decide)]
  constructor
  · intro h
    have h0 := h 0
    rw [s0, w0] at h0
    simpa using h0
  · intro h0 a
    fin_cases a
    show scatter_S1300_S600000x1_S600000_n_0_0_1.start (ix1 e) idx 0 + (scatter_S1300_S600000x1_S600000_n_0_0_1.window (ix1 e) 0 : Int) = (p.val : Int)
    rw [s0, w0, h0]; simp

/-- A sum over the edges, split into the edges from the shifts and the edges from the workers, each over shifts and workers. -/
theorem sum_edges {M : Type} [AddCommMonoid M] (F : Nat → M) :
    ∑ e : Fin 600000, F e.val
      = (∑ i : Fin 1000, ∑ j : Fin 300, F (i.val * 300 + j.val)) + ∑ i : Fin 1000, ∑ j : Fin 300, F (300000 + (i.val * 300 + j.val)) := by
  have half : ∀ G : Nat → M, ∑ e : Fin 300000, G e.val = ∑ i : Fin 1000, ∑ j : Fin 300, G (i.val * 300 + j.val) := fun G => by
    rw [← Fintype.sum_prod_type']
    refine (Fintype.sum_equiv (finProdFinEquiv (m := 1000) (n := 300)) (fun q => G (q.1.val * 300 + q.2.val)) (fun e => G e.val) fun q => ?_).symm
    rw [finProdFinEquiv_apply_val, Nat.add_comm, Nat.mul_comm]
  have split : ∑ e : Fin (300000 + 300000), F e.val = _ := Fin.sum_univ_add (fun e : Fin (300000 + 300000) => F e.val)
  refine split.trans (congrArg₂ (· + ·) ?_ ?_)
  · simp only [Fin.val_castAdd]
    exact half F
  · simp only [Fin.val_natAdd]
    exact half fun k => F (300000 + k)

/-- The edge from shift `i` to worker `j` ends at the worker. -/
theorem dst_out (i : Fin 1000) (j : Fin 300) : dstOf (i.val * 300 + j.val) = 1000 + j.val := by
  unfold dstOf
  rw [if_pos (by omega)]
  omega

/-- It starts at the shift. -/
theorem src_out (i : Fin 1000) (j : Fin 300) : srcOf (i.val * 300 + j.val) = i.val := by
  unfold srcOf
  rw [if_pos (by omega)]
  omega

/-- The edge from worker `j` to shift `i` ends at the shift. -/
theorem dst_back (i : Fin 1000) (j : Fin 300) : dstOf (300000 + (i.val * 300 + j.val)) = i.val := by
  unfold dstOf
  rw [if_neg (by omega)]
  omega

/-- It starts at the worker. -/
theorem src_back (i : Fin 1000) (j : Fin 300) : srcOf (300000 + (i.val * 300 + j.val)) = 1000 + j.val := by
  unfold srcOf
  rw [if_neg (by omega)]
  omega

/-- What a worker receives: one message from each shift. -/
theorem into_worker {M : Type} [AddCommMonoid M] (G : Nat → M) (j : Fin 300) :
    ∑ e : Fin 600000, (if dstOf e.val = 1000 + j.val then G (srcOf e.val) else 0) = ∑ i : Fin 1000, G i.val := by
  rw [sum_edges fun e => if dstOf e = 1000 + j.val then G (srcOf e) else 0]
  simp only [dst_out, src_out, dst_back, src_back]
  have a : ∀ i : Fin 1000, ∑ j' : Fin 300, (if 1000 + j'.val = 1000 + j.val then G i.val else 0) = G i.val := fun i => by
    rw [Finset.sum_eq_single j, if_pos rfl]
    · intro j' _ hne
      exact if_neg fun h => hne (Fin.ext (by omega))
    · intro h
      exact absurd (Finset.mem_univ _) h
  have b : ∀ i : Fin 1000, ∑ j' : Fin 300, (if i.val = 1000 + j.val then G (1000 + j'.val) else 0) = 0 := fun i =>
    Finset.sum_eq_zero fun j' _ => if_neg (by omega)
  rw [Finset.sum_congr rfl fun i _ => a i, Finset.sum_congr rfl fun i _ => b i, Finset.sum_const_zero, add_zero]

/-- What a shift receives: one message from each worker. -/
theorem into_shift {M : Type} [AddCommMonoid M] (G : Nat → M) (i : Fin 1000) :
    ∑ e : Fin 600000, (if dstOf e.val = i.val then G (srcOf e.val) else 0) = ∑ j : Fin 300, G (1000 + j.val) := by
  rw [sum_edges fun e => if dstOf e = i.val then G (srcOf e) else 0]
  simp only [dst_out, src_out, dst_back, src_back]
  have a : ∀ i' : Fin 1000, ∑ j' : Fin 300, (if 1000 + j'.val = i.val then G i'.val else 0) = 0 := fun i' =>
    Finset.sum_eq_zero fun j' _ => if_neg (by omega)
  have b : ∀ i' : Fin 1000, i' ≠ i → ∑ j' : Fin 300, (if i'.val = i.val then G (1000 + j'.val) else 0) = 0 := fun i' h =>
    Finset.sum_eq_zero fun j' _ => if_neg fun q => h (Fin.ext q)
  rw [Finset.sum_congr rfl fun i _ => a i, Finset.sum_const_zero, zero_add,
    Finset.sum_eq_single i (fun i' _ h => b i' h) fun h => absurd (Finset.mem_univ _) h]
  exact Finset.sum_congr rfl fun j' _ => if_pos rfl

end Cert.Proof.Edges

end
-- ==== Proof.Messages.lean ====
/- What each node of the complete bipartite graph receives in the reference program: the sum of the rows on the other
   side, and the count of them. -/
module

public import proofs.«01_k».proof.Proof.Edges
public import Idealize.ShloMosaic.Lib.StableHlo.Predicate

@[expose] public section

set_option maxRecDepth 16384

noncomputable section

namespace Cert.Proof.Edges

open Cert.ReferenceIdeal Cert.ReferenceIdeal.Gen Idealize.ShloMosaic Cert.Proof.Pre Cert.Proof.Ref

/-- The entry of row `k`, and zero beyond the last row. -/
def entry (n : FVec Ideal S1300x128 .f32) (d : Fin 128) (k : Nat) : EReal := if h : k < 1300 then n (ix2 (⟨k, h⟩ : Fin 1300) d) else 0

/-- A sum over the updates of a two-axis array, of those that land on one entry. -/
theorem sum_landing (upd : FVec Ideal S600000x128 .f32) (hit : S600000x128.Idx → Prop) [DecidablePred hit] (P : Fin 600000 → Prop) [DecidablePred P]
    (d : Fin 128) (h : ∀ e c, hit (ix2 e c) ↔ P e ∧ c = d) :
    ∑ j ∈ Finset.univ.filter hit, upd j = ∑ e : Fin 600000, if P e then upd (ix2 e d) else 0 := by
  rw [Finset.sum_filter, sum_idx2]
  refine Finset.sum_congr rfl fun e _ => ?_
  rw [Finset.sum_eq_single d]
  · by_cases p : P e
    · rw [if_pos ((h e d).2 ⟨p, rfl⟩), if_pos p]
    · rw [if_neg (fun q => p ((h e d).1 q).1), if_neg p]
  · intro c _ hc
    exact if_neg fun q => hc ((h e c).1 q).2
  · intro q
    exact absurd (Finset.mem_univ _) q

/-- The same of a vector of updates. -/
theorem sum_landing1 (upd : FVec Ideal S600000 .f32) (hit : S600000.Idx → Prop) [DecidablePred hit] (P : Fin 600000 → Prop) [DecidablePred P]
    (h : ∀ e, hit (ix1 e) ↔ P e) :
    ∑ j ∈ Finset.univ.filter hit, upd j = ∑ e : Fin 600000, if P e then upd (ix1 e) else 0 := by
  rw [Finset.sum_filter, sum_idx1]
  exact Finset.sum_congr rfl fun e _ => if_congr (h e) rfl rfl

variable {x : FVec Ideal S1000x310 .f32} {Ws : FVec Ideal S10x128 .f32} {bs : FVec Ideal S128 .f32} {Ww : FVec Ideal S300x128 .f32}
  {bw : FVec Ideal S128 .f32} {Wagg Wself Wdec : FVec Ideal S128x128 .f32} {src dst : IVec S600000 32}

/-- A column's entry is the list's. -/
theorem column_apply (l : IVec S600000 32) (e : Fin 600000) : column l (ix2 e (0 : Fin 1)) = l (ix1 e) := by
  pointwise [column]

/-- Every source is a node. -/
theorem srcOf_lt (e : Fin 600000) : srcOf e.val < 1300 := by
  unfold srcOf
  split <;> omega

/-- Every target is a node. -/
theorem dstOf_lt (e : Fin 600000) : dstOf e.val < 1300 := by
  unfold dstOf
  split <;> omega

/-- No source counts from the end. -/
theorem wrapped_apply (h : Drawn x Ws bs Ww bw Wagg Wself Wdec src dst) (e : Fin 600000) :
    wrapped src (ix1 e) = BitVec.ofNat 32 (srcOf e.val) := by
  have hs := srcOf_lt e
  have p : wrapped src (ix1 e) = Scalar.select (IntOp.cmpi .slt (src (ix1 e)) 0#32) (IntOp.addi (src (ix1 e)) 1300#32) (src (ix1 e)) := rfl
  rw [p, Routing.wrap_of_lt, h.src_eq]
  rw [h.src_eq, BitVec.toNat_ofNat]
  omega

/-- The word of edge `e`'s target, read signed, is `p` exactly when the target is `p`. -/
theorem target (h : Drawn x Ws bs Ww bw Wagg Wself Wdec src dst) (e : Fin 600000) (p : Fin 1300) :
    (column dst (ix2 e (0 : Fin 1))).toInt = (p.val : Int) ↔ dstOf e.val = p.val := by
  have hd := dstOf_lt e
  rw [column_apply, h.dst_eq, StableHlo.Predicate.toInt_ofNat_small _ (by omega)]
  omega

/-- The sum at node `p`, as a sum over the edges that end there. -/
theorem gathered_apply (h : Drawn x Ws bs Ww bw Wagg Wself Wdec src dst) (n : FVec Ideal S1300x128 .f32) (p : Fin 1300) (d : Fin 128) :
    gathered n src dst (ix2 p d) = ∑ e : Fin 600000, if dstOf e.val = p.val then entry n d (srcOf e.val) else 0 := by
  have g : ∀ e : Fin 600000, Host.gather gather_S1300x128_S600000x1_S600000x128_1_0_n_n_0_1_1128 n (column (wrapped src)) (ix2 e d)
      = entry n d (srcOf e.val) := fun e => by
    rw [entry, dif_pos (srcOf_lt e)]
    refine Routing.gather_row _ rfl rfl rfl rfl rfl n _ e d ⟨srcOf e.val, srcOf_lt e⟩ ?_ (by decide)
    exact (column_apply _ e).trans (wrapped_apply h e)
  have z : (broadcastInDim S1300x128 ![] bcast_S_S1300x128 (constant (F := Ideal) S_ .f32 0x00000000#32)) (ix2 p d) = 0 := by
    pointwise []
  have u : gathered n src dst (ix2 p d)
      = (broadcastInDim S1300x128 ![] bcast_S_S1300x128 (constant (F := Ideal) S_ .f32 0x00000000#32)) (ix2 p d)
        + ∑ j ∈ Finset.univ.filter (fun j => scatter_S1300x128_S600000x1_S600000x128_1_0_0_1.resultIdx? j (column dst) = some (ix2 p d)),
          Host.gather gather_S1300x128_S600000x1_S600000x128_1_0_n_n_0_1_1128 n (column (wrapped src)) j := rfl
  rw [u, z, zero_add, sum_landing _ _ (fun e => dstOf e.val = p.val) d fun e c => (lands_row _ e c p d).trans (and_congr (target h e p) Iff.rfl)]
  exact Finset.sum_congr rfl fun e _ => by rw [g e]

/-- The count at node `p`, as a sum over the edges that end there. -/
theorem degree_apply (h : Drawn x Ws bs Ww bw Wagg Wself Wdec src dst) (p : Fin 1300) :
    degree dst (ix1 p) = max (∑ e : Fin 600000, if dstOf e.val = p.val then (1 : EReal) else 0) 1 := by
  have z : (broadcastInDim S1300 ![] bcast_S_S1300 (constant (F := Ideal) S_ .f32 0x00000000#32)) (ix1 p) = 0 := by
    pointwise []
  have o : (broadcastInDim S1300 ![] bcast_S_S1300 (constant (F := Ideal) S_ .f32 0x3F800000#32)) (ix1 p) = 1 := by
    pointwise []
  have o' : ∀ e : Fin 600000, (broadcastInDim S600000 ![] bcast_S_S600000 (constant (F := Ideal) S_ .f32 0x3F800000#32)) (ix1 e) = 1 := fun e => by
    pointwise []
  have u : degree dst (ix1 p)
      = max ((broadcastInDim S1300 ![] bcast_S_S1300 (constant (F := Ideal) S_ .f32 0x00000000#32)) (ix1 p)
        + ∑ j ∈ Finset.univ.filter (fun j => scatter_S1300_S600000x1_S600000_n_0_0_1.resultIdx? j (column dst) = some (ix1 p)),
          (broadcastInDim S600000 ![] bcast_S_S600000 (constant (F := Ideal) S_ .f32 0x3F800000#32)) j)
        ((broadcastInDim S1300 ![] bcast_S_S1300 (constant (F := Ideal) S_ .f32 0x3F800000#32)) (ix1 p)) := rfl
  rw [u, z, zero_add, o, sum_landing1 _ _ (fun e => dstOf e.val = p.val) fun e => (lands_count _ e p).trans (target h e p)]
  simp only [o']

/-- A worker receives the sum of the shifts' rows. -/
theorem gathered_worker (h : Drawn x Ws bs Ww bw Wagg Wself Wdec src dst) (n : FVec Ideal S1300x128 .f32) (j : Fin 300) (d : Fin 128) :
    gathered n src dst (ix2 (⟨1000 + j.val, by omega⟩ : Fin 1300) d) = ∑ i : Fin 1000, n (ix2 (⟨i.val, by omega⟩ : Fin 1300) d) := by
  rw [gathered_apply h]
  refine (into_worker (entry n d) j).trans (Finset.sum_congr rfl fun i _ => ?_)
  rw [entry, dif_pos (by omega)]

/-- A shift receives the sum of the workers' rows. -/
theorem gathered_shift (h : Drawn x Ws bs Ww bw Wagg Wself Wdec src dst) (n : FVec Ideal S1300x128 .f32) (i : Fin 1000) (d : Fin 128) :
    gathered n src dst (ix2 (⟨i.val, by omega⟩ : Fin 1300) d) = ∑ j : Fin 300, n (ix2 (⟨1000 + j.val, by omega⟩ : Fin 1300) d) := by
  rw [gathered_apply h]
  refine (into_shift (entry n d) i).trans (Finset.sum_congr rfl fun j _ => ?_)
  rw [entry, dif_pos (by omega)]

/-- A sum of ones over `n` places, as a real number. -/
theorem sum_ones (n : Nat) : ∑ _i : Fin n, (1 : EReal) = ((n : ℝ) : EReal) := by
  rw [← EReal.coe_one, ← coe_sum]
  simp

/-- A worker has a thousand edges. -/
theorem degree_worker (h : Drawn x Ws bs Ww bw Wagg Wself Wdec src dst) (j : Fin 300) :
    degree dst (ix1 (⟨1000 + j.val, by omega⟩ : Fin 1300)) = ((1000 : ℝ) : EReal) := by
  rw [degree_apply h, into_worker (fun _ => (1 : EReal)) j, sum_ones]
  exact max_eq_left (by rw [← EReal.coe_one]; exact EReal.coe_le_coe_iff.2 (by norm_num))

/-- A shift has three hundred edges. -/
theorem degree_shift (h : Drawn x Ws bs Ww bw Wagg Wself Wdec src dst) (i : Fin 1000) :
    degree dst (ix1 (⟨i.val, by omega⟩ : Fin 1300)) = ((300 : ℝ) : EReal) := by
  rw [degree_apply h, into_shift (fun _ => (1 : EReal)) i, sum_ones]
  exact max_eq_left (by rw [← EReal.coe_one]; exact EReal.coe_le_coe_iff.2 (by norm_num))

end Cert.Proof.Edges

end
-- ==== Proof.NodeRows.lean ====
/- The node rows of the reference over arrays of real numbers. -/
module

public import proofs.«01_k».proof.Proof.RefFn
public import proofs.«01_k».proof.Proof.Model

@[expose] public section

set_option maxRecDepth 16384

noncomputable section

namespace Cert.Proof.Ref

open Cert.ReferenceIdeal Cert.ReferenceIdeal.Gen Idealize.ShloMosaic Cert.Proof.Pre

variable {R : Reals} {x : FVec Ideal S1000x310 .f32} {Ws : FVec Ideal S10x128 .f32} {bs : FVec Ideal S128 .f32} {Ww : FVec Ideal S300x128 .f32}
  {bw : FVec Ideal S128 .f32} {Wagg Wself Wdec : FVec Ideal S128x128 .f32} {src dst : IVec S600000 32}

/-- The embedded shifts. -/
theorem shifts_apply (h : Holds R x Ws bs Ww bw Wagg Wself Wdec) (i : Fin 1000) (d : Fin 128) :
    shifts x Ws bs (ix2 i d) = (R.shift i d : EReal) := by
  pointwise [shifts]
  simp only [Nat.zero_add, h.f, h.ws, h.bs]
  rw [dot_real, ← EReal.coe_add]
  rfl

/-- The identity matrix. -/
theorem eye_apply (j k : Fin 300) : eye (ix2 j k) = if j = k then 1 else 0 := by
  pointwise [eye]
  rw [show IntOp.addi (BitVec.ofNat 32 j.val) 0#32 = BitVec.ofNat 32 j.val from BitVec.add_zero _]
  by_cases e : j = k
  · subst e
    rw [if_pos rfl, IntOp.cmpi_eq.2 rfl]
    show (((1#1).toNat : ℝ) : EReal) = 1
    simp
  · rw [if_neg e]
    have ne : ¬ BitVec.ofNat 32 j.val = BitVec.ofNat 32 k.val := fun q => e (Fin.ext (by
      have t := congrArg BitVec.toNat q
      rw [BitVec.toNat_ofNat, BitVec.toNat_ofNat] at t
      omega))
    have z : IntOp.cmpi .eq (BitVec.ofNat 32 j.val) (BitVec.ofNat 32 k.val) = 0#1 := by
      exact congrArg BitVec.ofBool (beq_eq_false_iff_ne.2 ne)
    rw [z]
    show (((0#1).toNat : ℝ) : EReal) = 0
    simp

/-- The embedded workers. -/
theorem workers_apply (h : Holds R x Ws bs Ww bw Wagg Wself Wdec) (j : Fin 300) (d : Fin 128) :
    workers Ww bw (ix2 j d) = (R.worker j d : EReal) := by
  pointwise [workers]
  simp only [eye_apply, h.ww, h.bw, ite_mul, one_mul, zero_mul]
  rw [Finset.sum_ite_eq, if_pos (Finset.mem_univ _), ← EReal.coe_add]
  rfl

/-- The node rows of the shifts. -/
theorem nodes_shift (h : Holds R x Ws bs Ww bw Wagg Wself Wdec) (i : Fin 1000) (d : Fin 128) :
    nodes x Ws bs Ww bw (ix2 (⟨i.val, by omega⟩ : Fin 1300) d) = (R.shift i d : EReal) := by
  pointwise [nodes, stack]
  exact shifts_apply h i d

/-- The node rows of the workers. -/
theorem nodes_worker (h : Holds R x Ws bs Ww bw Wagg Wself Wdec) (j : Fin 300) (d : Fin 128) :
    nodes x Ws bs Ww bw (ix2 (⟨1000 + j.val, by omega⟩ : Fin 1300) d) = (R.worker j d : EReal) := by
  pointwise [nodes, stack]
  exact workers_apply h j d

end Cert.Proof.Ref

end
-- ==== Proof.Hidden.lean ====
/- The hidden rows of the reference over arrays of real numbers. -/
module

public import proofs.«01_k».proof.Proof.Messages
public import proofs.«01_k».proof.Proof.NodeRows

@[expose] public section

set_option maxRecDepth 16384

noncomputable section

namespace Cert.Proof.Ref

open Cert.ReferenceIdeal Cert.ReferenceIdeal.Gen Idealize.ShloMosaic Cert.Proof.Pre Cert.Proof.Edges

variable {R : Reals} {x : FVec Ideal S1000x310 .f32} {Ws : FVec Ideal S10x128 .f32} {bs : FVec Ideal S128 .f32} {Ww : FVec Ideal S300x128 .f32}
  {bw : FVec Ideal S128 .f32} {Wagg Wself Wdec : FVec Ideal S128x128 .f32} {src dst : IVec S600000 32}

/-- The mean message at the first shift. -/
theorem mean_shift (h : Holds R x Ws bs Ww bw Wagg Wself Wdec) (hd : Drawn x Ws bs Ww bw Wagg Wself Wdec src dst) (i : Fin 1000) (d : Fin 128) :
    mean (nodes x Ws bs Ww bw) src dst (ix2 (⟨i.val, by omega⟩ : Fin 1300) d) = (R.workerMean d : EReal) := by
  pointwise [mean]
  rw [gathered_shift hd, degree_shift hd]
  simp only [nodes_worker h]
  rw [← coe_sum, div_real _ (by norm_num)]
  rfl

/-- The mean message at a worker. -/
theorem mean_worker (h : Holds R x Ws bs Ww bw Wagg Wself Wdec) (hd : Drawn x Ws bs Ww bw Wagg Wself Wdec src dst) (j : Fin 300) (d : Fin 128) :
    mean (nodes x Ws bs Ww bw) src dst (ix2 (⟨1000 + j.val, by omega⟩ : Fin 1300) d) = (R.shiftMean d : EReal) := by
  pointwise [mean]
  rw [gathered_worker hd, degree_worker hd]
  simp only [nodes_shift h]
  rw [← coe_sum, div_real _ (by norm_num)]
  rfl

/-- The hidden row of the first shift. -/
theorem hidden_shift (h : Holds R x Ws bs Ww bw Wagg Wself Wdec) (hd : Drawn x Ws bs Ww bw Wagg Wself Wdec src dst) (d : Fin 128) :
    hidden (nodes x Ws bs Ww bw) Wagg Wself src dst (ix2 (0 : Fin 1300) d) = (R.hiddenShift d : EReal) := by
  have a := fun k => mean_shift h hd 0 k
  have b := fun k => nodes_shift h 0 k
  simp only [Fin.val_zero, Fin.mk_zero] at a b
  pointwise [hidden]
  simp only [a, b, h.wagg, h.wself]
  rw [dot_real, dot_real, ← EReal.coe_add, ← EReal.coe_zero, max_real]
  rfl

/-- The hidden row of a worker. -/
theorem hidden_worker (h : Holds R x Ws bs Ww bw Wagg Wself Wdec) (hd : Drawn x Ws bs Ww bw Wagg Wself Wdec src dst) (j : Fin 300) (d : Fin 128) :
    hidden (nodes x Ws bs Ww bw) Wagg Wself src dst (ix2 (⟨1000 + j.val, by omega⟩ : Fin 1300) d) = (R.hiddenWorker j d : EReal) := by
  pointwise [hidden]
  simp only [mean_worker h hd, nodes_worker h, h.wagg, h.wself]
  rw [dot_real, dot_real, ← EReal.coe_add, ← EReal.coe_zero, max_real]
  rfl

end Cert.Proof.Ref

end
-- ==== Proof.First.lean ====
/- The shift that the reference reads: the first with no worker, which under the precondition is the first. -/
module

public import proofs.«01_k».proof.Proof.RefFn
public import proofs.«01_k».proof.Proof.Pre

@[expose] public section

set_option maxRecDepth 16384

noncomputable section

namespace Cert.Proof.Ref

open Cert.ReferenceIdeal Cert.ReferenceIdeal.Gen Idealize.ShloMosaic Cert.Proof.Pre

variable {x : FVec Ideal S1000x310 .f32} {Ws : FVec Ideal S10x128 .f32} {bs : FVec Ideal S128 .f32} {Ww : FVec Ideal S300x128 .f32}
  {bw : FVec Ideal S128 .f32} {Wagg Wself Wdec : FVec Ideal S128x128 .f32} {src dst : IVec S600000 32}

/-- The first shift has no worker: the sum of its last columns is zero. -/
theorem free_zero (hd : Drawn x Ws bs Ww bw Wagg Wself Wdec src dst) : free x (ix1 (0 : Fin 1000)) = 1#1 := by
  pointwise [free]
  rw [hd.empty]
  simp

/-- Where the first of the entries is set, the search for the first largest entry, started from nothing, ends at the first. -/
theorem search (N : Nat) (g : Fin N → BitVec 1 × BitVec 32) (hN : 0 < N) (h0 : g ⟨0, hN⟩ = (1#1, 0#32)) (hg : ∀ n, (g n).2.toNat < 2 ^ 31) :
    (List.finRange N).foldl (fun r n => reducer_argmax_i1_i32 r (g n)) (0#1, 0#32) = (1#1, 0#32) := by
  have stay : ∀ b : BitVec 1 × BitVec 32, b.2.toNat < 2 ^ 31 → reducer_argmax_i1_i32 (1#1, 0#32) b = (1#1, 0#32) := by
    rintro ⟨a, b⟩ hb
    have bit : ∀ t : BitVec 1, t = 0#1 ∨ t = 1#1 := by decide
    have small : b.toNat < 2 ^ 31 := hb
    have hz : ¬ (0#32).toInt < b.toInt → b = 0#32 := fun q => by
      have t := BitVec.toInt_eq_toNat_of_lt (x := b) (by omega)
      have u : (0#32).toInt = 0 := rfl
      exact BitVec.eq_of_toNat_eq (by rw [BitVec.toNat_ofNat]; omega)
    unfold reducer_argmax_i1_i32
    rcases bit a with rfl | rfl
    · rcases bit (IntOp.cmpi .slt 0#32 b) with t | t <;> (simp only [t]; rfl)
    · by_cases q : (0#32).toInt < b.toInt
      · have t : IntOp.cmpi .slt 0#32 b = 1#1 := IntOp.cmpi_slt.2 q
        simp only [t]
        rfl
      · rw [hz q]
        rfl
  have go : ∀ l : List (Fin N), l.foldl (fun r n => reducer_argmax_i1_i32 r (g n)) (1#1, 0#32) = (1#1, 0#32) := by
    intro l
    induction l with
    | nil => rfl
    | cons a l ih => rw [List.foldl_cons, stay _ (hg a), ih]
  obtain ⟨M, rfl⟩ : ∃ M, N = M + 1 := ⟨N - 1, by omega⟩
  rw [List.finRange_succ, List.foldl_cons]
  have s : reducer_argmax_i1_i32 (0#1, 0#32) (g 0) = (1#1, 0#32) := by
    rw [show g 0 = (1#1, 0#32) from h0]
    decide
  rw [s, go]

/-- The first shift with no worker is the first. -/
theorem first_eq (hd : Drawn x Ws bs Ww bw Wagg Wself Wdec src dst) : first x = fun _ => 0#32 := by
  funext j
  unfold first Host.reduce2
  have all : ((List.finRange S1000.numel).filter fun n => reducesTo_S1000_S_d0.drop (S1000.rowMajor.symm n) = j) = List.finRange S1000.numel :=
    List.filter_eq_self.2 fun n _ => decide_eq_true (funext fun a => a.elim0)
  rw [all]
  have hn : S1000.numel = 1000 := by decide
  have zero : S1000.rowMajor.symm ⟨0, by omega⟩ = ix1 (0 : Fin 1000) :=
    (Equiv.symm_apply_eq _).2 (Fin.ext (by rw [Shape.rowMajor_val_one]; rfl))
  refine congrArg Prod.snd (search S1000.numel (fun n => (free x (S1000.rowMajor.symm n), iotaInDim S1000 32 0 (S1000.rowMajor.symm n)))
    (by omega) ?_ fun n => ?_)
  · rw [zero, free_zero hd]
    rfl
  · have lt : (S1000.rowMajor.symm n 0).val < 1000 := (S1000.rowMajor.symm n 0).isLt
    show (BitVec.ofNat 32 (S1000.rowMajor.symm n 0).val).toNat < 2 ^ 31
    rw [BitVec.toNat_ofNat]
    omega

/-- So the row read is the first. -/
theorem row_eq (hd : Drawn x Ws bs Ww bw Wagg Wself Wdec src dst) : row x = fun _ => 0#32 := by
  funext j
  unfold row
  rw [first_eq hd]
  rfl

end Cert.Proof.Ref

end
-- ==== Proof.RefValue.lean ====
/- The reference's scores over arrays of real numbers. -/
module

public import proofs.«01_k».proof.Proof.Hidden
public import proofs.«01_k».proof.Proof.First

@[expose] public section

set_option maxRecDepth 16384

noncomputable section

namespace Cert.Proof.Ref

open Cert.ReferenceIdeal Cert.ReferenceIdeal.Gen Idealize.ShloMosaic Cert.Proof.Pre Cert.Proof.Edges

variable {R : Reals} {x : FVec Ideal S1000x310 .f32} {Ws : FVec Ideal S10x128 .f32} {bs : FVec Ideal S128 .f32} {Ww : FVec Ideal S300x128 .f32}
  {bw : FVec Ideal S128 .f32} {Wagg Wself Wdec : FVec Ideal S128x128 .f32} {src dst : IVec S600000 32}

/-- The hidden row that is read. -/
theorem chosen_apply (h : Holds R x Ws bs Ww bw Wagg Wself Wdec) (hd : Drawn x Ws bs Ww bw Wagg Wself Wdec src dst) (d : Fin 128) :
    chosen (hidden (nodes x Ws bs Ww bw) Wagg Wself src dst) (row x) lane (ix1 d) = (R.hiddenShift d : EReal) := by
  have start : (fun k => ((![row x, lane] : Fin 2 → IVec S_ 32) k (Shape.Idx.first h_S_)).toInt) = fun _ => 0 := by
    rw [row_eq hd]
    funext k
    fin_cases k <;> rfl
  rw [← hidden_shift h hd]
  unfold chosen
  rw [start]
  pointwise []
  refine congrArg (hidden (nodes x Ws bs Ww bw) Wagg Wself src dst) (congrArg (ix2 (0 : Fin 1300)) (Fin.ext ?_))
  show Host.clampedStart S1300x128 S1x128 _ (fun _ => 0) 1 + d.val = d.val
  rw [Host.clampedStart_of_le _ _ _ 0 rfl (by decide), Nat.zero_add]

/-- The reference's scores. -/
theorem scores_apply (h : Holds R x Ws bs Ww bw Wagg Wself Wdec) (hd : Drawn x Ws bs Ww bw Wagg Wself Wdec src dst) (j : Fin 300) :
    scores x Ws bs Ww bw Wagg Wself Wdec src dst (ix1 j) = (R.score j : EReal) := by
  unfold scores
  pointwise [logits]
  simp only [chosen_apply h hd, hidden_worker h hd, h.wdec]
  simp only [dot_real]
  rfl

end Cert.Proof.Ref

end
-- ==== Proof.Softmax.lean ====
/- The two programs' softmaxes: equal scores have equal softmaxes. -/
module

public import proofs.«01_k».proof.Proof.KerFn
public import proofs.«01_k».proof.Proof.RefFn
public import proofs.«01_k».proof.Proof.Consts
public import Idealize.ShloMosaic.Lib.Pointwise

@[expose] public section

set_option maxRecDepth 16384

noncomputable section

namespace Cert.Proof.Softmax

open Idealize.ShloMosaic

variable {k : FVec Ideal Cert.KernelIdeal.S1x300 .f32} {r : FVec Ideal Cert.ReferenceIdeal.S300 .f32}

/-- The kernel's exponentials, by the largest score. -/
theorem ker_powers (j : Fin 300) : Ker.powers k (ix2 (0 : Fin 1) j)
    = Ideal.exp (k (ix2 (0 : Fin 1) j) - Finset.fold max ⊥ (fun i : Fin 300 => k (ix2 (0 : Fin 1) i)) Finset.univ) := by
  pointwise [Ker.powers, Ker.top]
  rw [neg_inf_bits]

/-- The reference's exponentials, by the largest score. -/
theorem ref_powers (j : Fin 300) : Ref.powers r (ix1 j)
    = Ideal.exp (r (ix1 j) - Finset.fold max ⊥ (fun i : Fin 300 => r (ix1 i)) Finset.univ) := by
  pointwise [Ref.powers]
  rw [neg_inf_bits, max_eq_right bot_le]

/-- Equal scores have equal exponentials. -/
theorem powers_eq (h : ∀ j : Fin 300, k (ix2 (0 : Fin 1) j) = r (ix1 j)) (j : Fin 300) : Ker.powers k (ix2 (0 : Fin 1) j) = Ref.powers r (ix1 j) := by
  rw [ker_powers, ref_powers]
  simp only [h]

/-- Equal scores have equal softmaxes. -/
theorem softmax_eq (h : ∀ j : Fin 300, k (ix2 (0 : Fin 1) j) = r (ix1 j)) (j : Fin 300) : Ker.softmax k (ix2 (0 : Fin 1) j) = Ref.softmax r (ix1 j) := by
  pointwise [Ker.softmax, Ref.softmax]
  simp only [powers_eq h]

end Cert.Proof.Softmax

end
-- ==== Proof.Equation.lean ====
/- The equation: under the precondition the kernel's result is the reference's. -/
module

public import proofs.«01_k».proof.Proof.KerValue
public import proofs.«01_k».proof.Proof.RefValue
public import proofs.«01_k».proof.Proof.Softmax

@[expose] public section

set_option maxRecDepth 16384

noncomputable section

namespace Cert.Proof

open Idealize.ShloMosaic Cert.ReferenceIdeal

variable {x : FVec Ideal S1000x310 .f32} {Ws : FVec Ideal S10x128 .f32} {bs : FVec Ideal S128 .f32} {Ww : FVec Ideal S300x128 .f32}
  {bw : FVec Ideal S128 .f32} {Wagg Wself Wdec : FVec Ideal S128x128 .f32} {src dst : IVec S600000 32}

/-- The body's result is the reference's, entry by entry. -/
theorem body_apply (hd : Pre.Drawn x Ws bs Ww bw Wagg Wself Wdec src dst) (j : Fin 300) :
    Ker.body (Ker.cols x) Ws (Ker.asRow bs) Ww (Ker.asRow bw) Wagg Wself Wdec (ix2 (0 : Fin 1) j)
      = Ref.softmax (Ref.scores x Ws bs Ww bw Wagg Wself Wdec src dst) (ix1 j) := by
  obtain ⟨R, h⟩ := holds_of_drawn hd
  unfold Ker.body
  rw [Ker.tail_eq]
  exact Softmax.softmax_eq (fun i => (Ker.scores_apply h i).trans (Ref.scores_apply h hd i).symm) j

/-- The kernel's result is the reference's. -/
theorem equation (hd : Pre.Drawn x Ws bs Ww bw Wagg Wself Wdec src dst) :
    Ker.out x Ws bs Ww bw Wagg Wself Wdec = Ref.softmax (Ref.scores x Ws bs Ww bw Wagg Wself Wdec src dst) := by
  funext i
  obtain ⟨j, rfl⟩ : ∃ j : Fin 300, i = ix1 j := ⟨i 0, funext fun k => by fin_cases k; rfl⟩
  pointwise [Ker.out]
  exact body_apply hd j

end Cert.Proof

end
-- ==== Proof.KerRun.lean ====
/- The run of the kernel program at the extended reals: its one grid point stages every array whole, so the result is
   the body's value of the arguments, laid out as a vector. -/
module

public import proofs.«01_k».proof.Proof.Gen.KernelIdeal.Frame
public import proofs.«01_k».proof.Proof.KerFn
public import Idealize.ShloMosaic.Lib.Pipeline.ValueKit

@[expose] public section

set_option maxRecDepth 16384

noncomputable section

namespace Cert.Proof.Ker

open Cert.KernelIdeal Cert.KernelIdeal.Gen Idealize.ShloMosaic Idealize.ShloMosaic.TcCoe Idealize.SL.Sem
open Idealize.ShloMosaic.Pipeline (Dat)

variable (m : (ℓ : Loc nD τ sig) → Buf (Elt Ideal) ℓ) (ρ : Dev nD → PrngReg)

/-- On entry to the region the first window's array holds the first sixteen columns of the state. -/
theorem V_v0 (c : Dev nD) : V m c main_v0 = cols (m ((c.tc : Thread nD τ).loc main_arg0)) := by
  entry_read
  rfl
/-- On entry to the region the third window's array holds the shift bias as a row. -/
theorem V_v1 (c : Dev nD) : V m c main_v1 = asRow (m ((c.tc : Thread nD τ).loc main_arg2)) := by
  entry_read
  rfl
/-- On entry to the region the fifth window's array holds the worker bias as a row. -/
theorem V_v2 (c : Dev nD) : V m c main_v2 = asRow (m ((c.tc : Thread nD τ).loc main_arg4)) := by
  entry_read
  rfl

/-- Every window lies at the origin of its array. -/
theorem idx0 : ∀ t : Fin cfg0.N, win0_0.index t = ![0, 0] := (by decide +kernel : ∀ t : Fin grid0.N, _)
/-- The same of window 1. -/
theorem idx1 : ∀ t : Fin cfg0.N, win0_1.index t = ![0, 0] := (by decide +kernel : ∀ t : Fin grid0.N, _)
/-- The same of window 2. -/
theorem idx2 : ∀ t : Fin cfg0.N, win0_2.index t = ![0, 0] := (by decide +kernel : ∀ t : Fin grid0.N, _)
/-- The same of window 3. -/
theorem idx3 : ∀ t : Fin cfg0.N, win0_3.index t = ![0, 0] := (by decide +kernel : ∀ t : Fin grid0.N, _)
/-- The same of window 4. -/
theorem idx4 : ∀ t : Fin cfg0.N, win0_4.index t = ![0, 0] := (by decide +kernel : ∀ t : Fin grid0.N, _)
/-- The same of window 5. -/
theorem idx5 : ∀ t : Fin cfg0.N, win0_5.index t = ![0, 0] := (by decide +kernel : ∀ t : Fin grid0.N, _)
/-- The same of window 6. -/
theorem idx6 : ∀ t : Fin cfg0.N, win0_6.index t = ![0, 0] := (by decide +kernel : ∀ t : Fin grid0.N, _)
/-- The same of window 7. -/
theorem idx7 : ∀ t : Fin cfg0.N, win0_7.index t = ![0, 0] := (by decide +kernel : ∀ t : Fin grid0.N, _)

/-- Window 0's block is its whole array. -/
theorem blk0 (c : Dev nD) (t : Fin cfg0.N) : iblk m c 0 t = V m c main_v0 := by
  blk_ext! [iblk, V, idx0 t]

/-- Window 1's block is its whole array. -/
theorem blk1 (c : Dev nD) (t : Fin cfg0.N) : iblk m c 1 t = V m c main_arg1 := by
  blk_ext! [iblk, V, idx1 t]

/-- Window 2's block is its whole array. -/
theorem blk2 (c : Dev nD) (t : Fin cfg0.N) : iblk m c 2 t = V m c main_v1 := by
  blk_ext! [iblk, V, idx2 t]

/-- Window 3's block is its whole array. -/
theorem blk3 (c : Dev nD) (t : Fin cfg0.N) : iblk m c 3 t = V m c main_arg3 := by
  blk_ext! [iblk, V, idx3 t]

/-- Window 4's block is its whole array. -/
theorem blk4 (c : Dev nD) (t : Fin cfg0.N) : iblk m c 4 t = V m c main_v2 := by
  blk_ext! [iblk, V, idx4 t]

/-- Window 5's block is its whole array. -/
theorem blk5 (c : Dev nD) (t : Fin cfg0.N) : iblk m c 5 t = V m c main_arg5 := by
  blk_ext! [iblk, V, idx5 t]

/-- Window 6's block is its whole array. -/
theorem blk6 (c : Dev nD) (t : Fin cfg0.N) : iblk m c 6 t = V m c main_arg6 := by
  blk_ext! [iblk, V, idx6 t]

/-- Window 7's block is its whole array. -/
theorem blk7 (c : Dev nD) (t : Fin cfg0.N) : iblk m c 7 t = V m c main_arg7 := by
  blk_ext! [iblk, V, idx7 t]

/-- The region's result array ends at the body's value of the region's arrays. -/
theorem final (c : Dev nD) : (dats m 0 c).arrAt 8 (cfgs 0).N
    = body (V m c main_v0) (V m c main_arg1) (V m c main_v1) (V m c main_arg3) (V m c main_v2) (V m c main_arg5) (V m c main_arg6) (V m c main_arg7) := by
  refine (dats m 0 c).arrAt_eq_of_after_last 8 t0_0 (by decide +kernel) _ fun j => ?_
  blk_simp
  rw [after0_8]
  frame_out
  rw [blk0, blk1, blk2, blk3, blk4, blk5, blk6, blk7]
  rfl

/-- After the region the one remaining operation lays the row out as a vector. -/
theorem tail (c : Dev nD) : Pipeline.afterTail₀ cfgs (dats m) 0 (V0 m) [hostOps1] c main_v4
    = shapeCast S300 ((dats m 0 c).arrAt 8 (cfgs 0).N) shapeCasts_S1x300_S300 := by
  unfold Pipeline.afterTail₀
  simp only [hostOps1, List.flatten_cons, List.flatten_nil, List.append_nil]
  after_results_simp
  have e := Pipeline.withArrays_arr (cfgs 0).spec (by decide +kernel) c (V0 m c) (fun w => (dats m 0 c).arrAt w (cfgs 0).N) 8
  exact congrArg (fun y : FVec Ideal S1x300 .f32 => shapeCast S300 y shapeCasts_S1x300_S300) e

/-- The kernel runs to its value with its arguments kept. -/
theorem run : θ_run defs (onTc (main (F := Ideal))) ⟨m, fun _ => 0, ρ⟩ fun r => ∀ c : Dev nD,
    r.2.mem ((c.tc : Thread nD τ).loc main_v4) = out (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  refine (θ_run defs _ _).mono (fun r h c => ?_) (run_main m ρ)
  have e := (h c).2 main_v4 (Pipeline.mem_restRefs_of main_v4 (by decide) (by decide))
  rw [e, tail, final, V_v0, V_v1, V_v2, V_main_arg1, V_main_arg3, V_main_arg5, V_main_arg6, V_main_arg7]
  rfl

end Cert.Proof.Ker

end
-- ==== Proof.RefRun.lean ====
/- The run of the reference program: its operations as five lists in order, what each list leaves in the buffers that
   later ones read, and from these what the result buffer holds at the end (`run`). -/
module

public import proofs.«01_k».proof.Proof.RefFn
public import Idealize.ShloMosaic.Lib.StableHlo.Run
public import Idealize.ShloMosaic.Lib.Pipeline.Frame
public import Idealize.ShloMosaic.Lib.Quiescent

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- The operations of the node features: the embedded shifts above the embedded workers. -/
abbrev opsA : List (HloOp τ sig (Elt F)) :=
  [ unary main_arg0 main_v0 ((extractStridedSlice S1000x10 ![0, 0] · slices_S1000x310_S1000x10_0_0) : (⟨S1000x310, .f32⟩ : BufTy).Contents (Elt F) → (⟨S1000x10, .f32⟩ : BufTy).Contents (Elt F)),
    binary main_v0 main_arg1 main_v1 ((fun l r => Host.dotGeneral dot_S1000x10_S10x128_S1000x128_1_0_0_1_n_n none l r) : (⟨S1000x10, .f32⟩ : BufTy).Contents (Elt F) → (⟨S10x128, .f32⟩ : BufTy).Contents (Elt F) → (⟨S1000x128, .f32⟩ : BufTy).Contents (Elt F)),
    unary main_arg2 main_v2 (broadcastInDim S1x128 ![1] bcast_S128_S1x128_1 : (⟨S128, .f32⟩ : BufTy).Contents (Elt F) → (⟨S1x128, .f32⟩ : BufTy).Contents (Elt F)),
    unary main_v2 main_v3 (broadcastInDim S1000x128 ![0, 1] bcast_S1x128_S1000x128_0_1 : (⟨S1x128, .f32⟩ : BufTy).Contents (Elt F) → (⟨S1000x128, .f32⟩ : BufTy).Contents (Elt F)),
    binary main_v1 main_v3 main_v4 (addf : (⟨S1000x128, .f32⟩ : BufTy).Contents (Elt F) → (⟨S1000x128, .f32⟩ : BufTy).Contents (Elt F) → (⟨S1000x128, .f32⟩ : BufTy).Contents (Elt F)),
    nullary main_v5 (iotaInDim S300x300 32 0),
    nullary main_v6 (iotaInDim S300x300 32 1),
    nullary main_c (constantI S_ 32 0#32),
    unary main_c main_v7 (broadcastInDim S300x300 ![] bcast_S_S300x300 : (⟨S_, .i32⟩ : BufTy).Contents (Elt F) → (⟨S300x300, .i32⟩ : BufTy).Contents (Elt F)),
    binary main_v5 main_v7 main_v8 (addi : (⟨S300x300, .i32⟩ : BufTy).Contents (Elt F) → (⟨S300x300, .i32⟩ : BufTy).Contents (Elt F) → (⟨S300x300, .i32⟩ : BufTy).Contents (Elt F)),
    binary main_v8 main_v6 main_v9 (cmpi .eq : (⟨S300x300, .i32⟩ : BufTy).Contents (Elt F) → (⟨S300x300, .i32⟩ : BufTy).Contents (Elt F) → (⟨S300x300, .i1⟩ : BufTy).Contents (Elt F)),
    unary main_v9 main_v10 (uitofp .f32 : (⟨S300x300, .i1⟩ : BufTy).Contents (Elt F) → (⟨S300x300, .f32⟩ : BufTy).Contents (Elt F)),
    binary main_v10 main_arg3 main_v11 ((fun l r => Host.dotGeneral dot_S300x300_S300x128_S300x128_1_0_0_1_n_n none l r) : (⟨S300x300, .f32⟩ : BufTy).Contents (Elt F) → (⟨S300x128, .f32⟩ : BufTy).Contents (Elt F) → (⟨S300x128, .f32⟩ : BufTy).Contents (Elt F)),
    unary main_arg4 main_v12 (broadcastInDim S1x128 ![1] bcast_S128_S1x128_1 : (⟨S128, .f32⟩ : BufTy).Contents (Elt F) → (⟨S1x128, .f32⟩ : BufTy).Contents (Elt F)),
    unary main_v12 main_v13 (broadcastInDim S300x128 ![0, 1] bcast_S1x128_S300x128_0_1 : (⟨S1x128, .f32⟩ : BufTy).Contents (Elt F) → (⟨S300x128, .f32⟩ : BufTy).Contents (Elt F)),
    binary main_v11 main_v13 main_v14 (addf : (⟨S300x128, .f32⟩ : BufTy).Contents (Elt F) → (⟨S300x128, .f32⟩ : BufTy).Contents (Elt F) → (⟨S300x128, .f32⟩ : BufTy).Contents (Elt F)),
    binary main_v4 main_v14 main_v15 (stack : (⟨S1000x128, .f32⟩ : BufTy).Contents (Elt F) → (⟨S300x128, .f32⟩ : BufTy).Contents (Elt F) → (⟨S1300x128, .f32⟩ : BufTy).Contents (Elt F)) ]

set_option maxRecDepth 8192 in
/-- They touch only buffers of the one thread. -/
theorem opsA_sub : (opsA : List (HloOp τ sig (Elt F))).Forall fun op => op.bufs ⊆ tcRefs τ sig :=
  ⟨unary_bufs_sub .., binary_bufs_sub .., unary_bufs_sub .., unary_bufs_sub .., binary_bufs_sub .., nullary_bufs_sub .., nullary_bufs_sub .., nullary_bufs_sub .., unary_bufs_sub .., binary_bufs_sub .., binary_bufs_sub .., unary_bufs_sub .., binary_bufs_sub .., unary_bufs_sub .., unary_bufs_sub .., binary_bufs_sub .., binary_bufs_sub ..⟩

/-- The operations of the message pass: gather, sum by destination, mean, linear maps, relu. -/
abbrev opsB : List (HloOp τ sig (Elt F)) :=
  [ nullary main_c_0 (constantI S_ 32 0#32),
    unary main_c_0 main_v16 (broadcastInDim S600000 ![] bcast_S_S600000 : (⟨S_, .i32⟩ : BufTy).Contents (Elt F) → (⟨S600000, .i32⟩ : BufTy).Contents (Elt F)),
    binary main_arg8 main_v16 main_v17 (cmpi .slt : (⟨S600000, .i32⟩ : BufTy).Contents (Elt F) → (⟨S600000, .i32⟩ : BufTy).Contents (Elt F) → (⟨S600000, .i1⟩ : BufTy).Contents (Elt F)),
    nullary main_c_1 (constantI S_ 32 1300#32),
    unary main_c_1 main_v18 (broadcastInDim S600000 ![] bcast_S_S600000 : (⟨S_, .i32⟩ : BufTy).Contents (Elt F) → (⟨S600000, .i32⟩ : BufTy).Contents (Elt F)),
    binary main_arg8 main_v18 main_v19 (addi : (⟨S600000, .i32⟩ : BufTy).Contents (Elt F) → (⟨S600000, .i32⟩ : BufTy).Contents (Elt F) → (⟨S600000, .i32⟩ : BufTy).Contents (Elt F)),
    ternary main_v17 main_v19 main_arg8 main_v20 (select : (⟨S600000, .i1⟩ : BufTy).Contents (Elt F) → (⟨S600000, .i32⟩ : BufTy).Contents (Elt F) → (⟨S600000, .i32⟩ : BufTy).Contents (Elt F) → (⟨S600000, .i32⟩ : BufTy).Contents (Elt F)),
    unary main_v20 main_v21 (broadcastInDim S600000x1 ![0] bcast_S600000_S600000x1_0 : (⟨S600000, .i32⟩ : BufTy).Contents (Elt F) → (⟨S600000x1, .i32⟩ : BufTy).Contents (Elt F)),
    binary main_v15 main_v21 main_v22 ((fun x i => Host.gather gather_S1300x128_S600000x1_S600000x128_1_0_n_n_0_1_1128 x i) : (⟨S1300x128, .f32⟩ : BufTy).Contents (Elt F) → (⟨S600000x1, .i32⟩ : BufTy).Contents (Elt F) → (⟨S600000x128, .f32⟩ : BufTy).Contents (Elt F)),
    nullary main_cst (constant S_ .f32 0x00000000#32),
    unary main_cst main_v23 (broadcastInDim S1300x128 ![] bcast_S_S1300x128 : (⟨S_, .f32⟩ : BufTy).Contents (Elt F) → (⟨S1300x128, .f32⟩ : BufTy).Contents (Elt F)),
    unary main_arg9 main_v24 (broadcastInDim S600000x1 ![0] bcast_S600000_S600000x1_0 : (⟨S600000, .i32⟩ : BufTy).Contents (Elt F) → (⟨S600000x1, .i32⟩ : BufTy).Contents (Elt F)),
    ternary main_v23 main_v24 main_v22 main_v25 ((fun x i u => Host.scatterAdd scatter_S1300x128_S600000x1_S600000x128_1_0_0_1 x i u) : (⟨S1300x128, .f32⟩ : BufTy).Contents (Elt F) → (⟨S600000x1, .i32⟩ : BufTy).Contents (Elt F) → (⟨S600000x128, .f32⟩ : BufTy).Contents (Elt F) → (⟨S1300x128, .f32⟩ : BufTy).Contents (Elt F)),
    nullary main_cst_2 (constant S_ .f32 0x3F800000#32),
    unary main_cst_2 main_v26 (broadcastInDim S600000 ![] bcast_S_S600000 : (⟨S_, .f32⟩ : BufTy).Contents (Elt F) → (⟨S600000, .f32⟩ : BufTy).Contents (Elt F)),
    nullary main_cst_3 (constant S_ .f32 0x00000000#32),
    unary main_cst_3 main_v27 (broadcastInDim S1300 ![] bcast_S_S1300 : (⟨S_, .f32⟩ : BufTy).Contents (Elt F) → (⟨S1300, .f32⟩ : BufTy).Contents (Elt F)),
    unary main_arg9 main_v28 (broadcastInDim S600000x1 ![0] bcast_S600000_S600000x1_0 : (⟨S600000, .i32⟩ : BufTy).Contents (Elt F) → (⟨S600000x1, .i32⟩ : BufTy).Contents (Elt F)),
    ternary main_v27 main_v28 main_v26 main_v29 ((fun x i u => Host.scatterAdd scatter_S1300_S600000x1_S600000_n_0_0_1 x i u) : (⟨S1300, .f32⟩ : BufTy).Contents (Elt F) → (⟨S600000x1, .i32⟩ : BufTy).Contents (Elt F) → (⟨S600000, .f32⟩ : BufTy).Contents (Elt F) → (⟨S1300, .f32⟩ : BufTy).Contents (Elt F)),
    nullary main_cst_4 (constant S_ .f32 0x3F800000#32),
    unary main_cst_4 main_v30 (broadcastInDim S1300 ![] bcast_S_S1300 : (⟨S_, .f32⟩ : BufTy).Contents (Elt F) → (⟨S1300, .f32⟩ : BufTy).Contents (Elt F)),
    binary main_v29 main_v30 main_v31 (maximumf : (⟨S1300, .f32⟩ : BufTy).Contents (Elt F) → (⟨S1300, .f32⟩ : BufTy).Contents (Elt F) → (⟨S1300, .f32⟩ : BufTy).Contents (Elt F)),
    unary main_v31 main_v32 (broadcastInDim S1300x1 ![0] bcast_S1300_S1300x1_0 : (⟨S1300, .f32⟩ : BufTy).Contents (Elt F) → (⟨S1300x1, .f32⟩ : BufTy).Contents (Elt F)),
    unary main_v32 main_v33 (broadcastInDim S1300x128 ![0, 1] bcast_S1300x1_S1300x128_0_1 : (⟨S1300x1, .f32⟩ : BufTy).Contents (Elt F) → (⟨S1300x128, .f32⟩ : BufTy).Contents (Elt F)),
    binary main_v25 main_v33 main_v34 (Host.divf : (⟨S1300x128, .f32⟩ : BufTy).Contents (Elt F) → (⟨S1300x128, .f32⟩ : BufTy).Contents (Elt F) → (⟨S1300x128, .f32⟩ : BufTy).Contents (Elt F)),
    binary main_v34 main_arg5 main_v35 ((fun l r => Host.dotGeneral dot_S1300x128_S128x128_S1300x128_1_0_0_1_n_n none l r) : (⟨S1300x128, .f32⟩ : BufTy).Contents (Elt F) → (⟨S128x128, .f32⟩ : BufTy).Contents (Elt F) → (⟨S1300x128, .f32⟩ : BufTy).Contents (Elt F)),
    binary main_v15 main_arg6 main_v36 ((fun l r => Host.dotGeneral dot_S1300x128_S128x128_S1300x128_1_0_0_1_n_n none l r) : (⟨S1300x128, .f32⟩ : BufTy).Contents (Elt F) → (⟨S128x128, .f32⟩ : BufTy).Contents (Elt F) → (⟨S1300x128, .f32⟩ : BufTy).Contents (Elt F)),
    binary main_v35 main_v36 main_v37 (addf : (⟨S1300x128, .f32⟩ : BufTy).Contents (Elt F) → (⟨S1300x128, .f32⟩ : BufTy).Contents (Elt F) → (⟨S1300x128, .f32⟩ : BufTy).Contents (Elt F)),
    TRef.nullary main_call0.cst (constant S_ .f32 0x00000000#32),
    TRef.unary main_call0.cst main_call0.v0 (broadcastInDim S1300x128 ![] bcast_S_S1300x128),
    TRef.binary (.of main_v37) main_call0.v0 main_call0.v1 maximumf ]

set_option maxRecDepth 8192 in
/-- They touch only buffers of the one thread. -/
theorem opsB_sub : (opsB : List (HloOp τ sig (Elt F))).Forall fun op => op.bufs ⊆ tcRefs τ sig :=
  ⟨nullary_bufs_sub .., unary_bufs_sub .., binary_bufs_sub .., nullary_bufs_sub .., unary_bufs_sub .., binary_bufs_sub .., ternary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., unary_bufs_sub .., binary_bufs_sub .., binary_bufs_sub .., binary_bufs_sub .., binary_bufs_sub .., nullary_bufs_sub .., unary_bufs_sub .., binary_bufs_sub ..⟩

/-- The operations of the row of the first shift with no worker. -/
abbrev opsC : List (HloOp τ sig (Elt F)) :=
  [ unary main_arg0 main_v39 ((extractStridedSlice S1000x300 ![0, 10] · slices_S1000x310_S1000x300_0_10) : (⟨S1000x310, .f32⟩ : BufTy).Contents (Elt F) → (⟨S1000x300, .f32⟩ : BufTy).Contents (Elt F)),
    nullary main_cst_5 (constant S_ .f32 0x00000000#32),
    binary main_v39 main_cst_5 main_v40 ((fun x v => Host.reduceAdd x v reducesTo_S1000x300_S1000_d1 h_S_) : (⟨S1000x300, .f32⟩ : BufTy).Contents (Elt F) → (⟨S_, .f32⟩ : BufTy).Contents (Elt F) → (⟨S1000, .f32⟩ : BufTy).Contents (Elt F)),
    nullary main_cst_6 (constant S_ .f32 0x00000000#32),
    unary main_cst_6 main_v41 (broadcastInDim S1000 ![] bcast_S_S1000 : (⟨S_, .f32⟩ : BufTy).Contents (Elt F) → (⟨S1000, .f32⟩ : BufTy).Contents (Elt F)),
    binary main_v40 main_v41 main_v42 (cmpf .oeq : (⟨S1000, .f32⟩ : BufTy).Contents (Elt F) → (⟨S1000, .f32⟩ : BufTy).Contents (Elt F) → (⟨S1000, .i1⟩ : BufTy).Contents (Elt F)),
    TRef.nullary main_call1.v0 (iotaInDim S1000 32 0),
    TRef.nullary main_call1.c (constantI S_ 1 0#1),
    TRef.nullary main_call1.c_0 (constantI S_ 32 0#32),
    TRef.quaternary (.of main_v42) main_call1.v0 main_call1.c main_call1.c_0 main_call1.v1_0 (fun x y u v j => (Host.reduce2 reducer_argmax_i1_i32 x y u v reducesTo_S1000_S_d0 h_S_ j).1),
    TRef.quaternary (.of main_v42) main_call1.v0 main_call1.c main_call1.c_0 main_call1.v1_1 (fun x y u v j => (Host.reduce2 reducer_argmax_i1_i32 x y u v reducesTo_S1000_S_d0 h_S_ j).2),
    nullary main_c_7 (constantI S_ 32 0#32),
    binary main_v43 main_c_7 main_v44 (cmpi .slt : (⟨S_, .i32⟩ : BufTy).Contents (Elt F) → (⟨S_, .i32⟩ : BufTy).Contents (Elt F) → (⟨S_, .i1⟩ : BufTy).Contents (Elt F)),
    nullary main_c_8 (constantI S_ 32 1300#32),
    binary main_v43 main_c_8 main_v45 (addi : (⟨S_, .i32⟩ : BufTy).Contents (Elt F) → (⟨S_, .i32⟩ : BufTy).Contents (Elt F) → (⟨S_, .i32⟩ : BufTy).Contents (Elt F)),
    ternary main_v44 main_v45 main_v43 main_v46 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    nullary main_c_9 (constantI S_ 32 0#32),
    nullary main_c_10 (constantI S_ 32 0#32),
    binary main_c_9 main_c_10 main_v47 (cmpi .slt : (⟨S_, .i32⟩ : BufTy).Contents (Elt F) → (⟨S_, .i32⟩ : BufTy).Contents (Elt F) → (⟨S_, .i1⟩ : BufTy).Contents (Elt F)),
    nullary main_c_11 (constantI S_ 32 0#32),
    nullary main_c_12 (constantI S_ 32 128#32),
    binary main_c_11 main_c_12 main_v48 (addi : (⟨S_, .i32⟩ : BufTy).Contents (Elt F) → (⟨S_, .i32⟩ : BufTy).Contents (Elt F) → (⟨S_, .i32⟩ : BufTy).Contents (Elt F)),
    nullary main_c_13 (constantI S_ 32 0#32),
    ternary main_v47 main_v48 main_c_13 main_v49 (select : (⟨S_, .i1⟩ : BufTy).Contents (Elt F) → (⟨S_, .i32⟩ : BufTy).Contents (Elt F) → (⟨S_, .i32⟩ : BufTy).Contents (Elt F) → (⟨S_, .i32⟩ : BufTy).Contents (Elt F)) ]

set_option maxRecDepth 8192 in
/-- They touch only buffers of the one thread. -/
theorem opsC_sub : (opsC : List (HloOp τ sig (Elt F))).Forall fun op => op.bufs ⊆ tcRefs τ sig :=
  ⟨unary_bufs_sub .., nullary_bufs_sub .., binary_bufs_sub .., nullary_bufs_sub .., unary_bufs_sub .., binary_bufs_sub .., nullary_bufs_sub .., nullary_bufs_sub .., nullary_bufs_sub .., quaternary_bufs_sub .., quaternary_bufs_sub .., nullary_bufs_sub .., binary_bufs_sub .., nullary_bufs_sub .., binary_bufs_sub .., ternary_bufs_sub .., nullary_bufs_sub .., nullary_bufs_sub .., binary_bufs_sub .., nullary_bufs_sub .., nullary_bufs_sub .., binary_bufs_sub .., nullary_bufs_sub .., ternary_bufs_sub ..⟩

/-- The operations of the decoder. -/
abbrev opsD : List (HloOp τ sig (Elt F)) :=
  [ unaryIndexed main_v38 ![main_v46, main_v49] ⟨S_, .i32⟩ main_v50 ((fun x i => Host.dynamicSlice S1x128 x (fun k => (i k (Shape.Idx.first h_S_)).toInt) sliceFits_S1300x128_S1x128) : (⟨S1300x128, .f32⟩ : BufTy).Contents (Elt F) → (Fin 2 → (⟨S_, .i32⟩ : BufTy).Contents (Elt F)) → (⟨S1x128, .f32⟩ : BufTy).Contents (Elt F)),
    reshape main_v50 main_v51 (rfl : (.f32 : EltTy) = .f32) shapeCasts_S1x128_S128,
    unary main_v38 main_v52 ((extractStridedSlice S300x128 ![1000, 0] · slices_S1300x128_S300x128_1000_0) : (⟨S1300x128, .f32⟩ : BufTy).Contents (Elt F) → (⟨S300x128, .f32⟩ : BufTy).Contents (Elt F)),
    binary main_v52 main_arg7 main_v53 ((fun l r => Host.dotGeneral dot_S300x128_S128x128_S300x128_1_0_0_1_n_n none l r) : (⟨S300x128, .f32⟩ : BufTy).Contents (Elt F) → (⟨S128x128, .f32⟩ : BufTy).Contents (Elt F) → (⟨S300x128, .f32⟩ : BufTy).Contents (Elt F)),
    binary main_v53 main_v51 main_v54 ((fun l r => Host.dotGeneral dot_S300x128_S128_S300_1_0_0_n_n_n none l r) : (⟨S300x128, .f32⟩ : BufTy).Contents (Elt F) → (⟨S128, .f32⟩ : BufTy).Contents (Elt F) → (⟨S300, .f32⟩ : BufTy).Contents (Elt F)) ]

set_option maxRecDepth 8192 in
/-- They touch only buffers of the one thread. -/
theorem opsD_sub : (opsD : List (HloOp τ sig (Elt F))).Forall fun op => op.bufs ⊆ tcRefs τ sig :=
  ⟨unaryIndexed_bufs_sub .., reshape_bufs_sub .., unary_bufs_sub .., binary_bufs_sub .., binary_bufs_sub ..⟩

/-- The operations of the softmax. -/
abbrev opsE : List (HloOp τ sig (Elt F)) :=
  [ nullary main_cst_14 (constant S_ .f32 0xFF800000#32),
    binary main_v54 main_cst_14 main_v55 ((fun x v => Host.reduce FloatOps.maximumf x v reducesTo_S300_S_d0 h_S_) : (⟨S300, .f32⟩ : BufTy).Contents (Elt F) → (⟨S_, .f32⟩ : BufTy).Contents (Elt F) → (⟨S_, .f32⟩ : BufTy).Contents (Elt F)),
    nullary main_cst_15 (constant S_ .f32 0xFF800000#32),
    binary main_cst_15 main_v55 main_v56 (maximumf : (⟨S_, .f32⟩ : BufTy).Contents (Elt F) → (⟨S_, .f32⟩ : BufTy).Contents (Elt F) → (⟨S_, .f32⟩ : BufTy).Contents (Elt F)),
    unary main_v56 main_v57 (broadcastInDim S1 ![] bcast_S_S1 : (⟨S_, .f32⟩ : BufTy).Contents (Elt F) → (⟨S1, .f32⟩ : BufTy).Contents (Elt F)),
    unary main_v57 main_v58 (broadcastInDim S300 ![0] bcast_S1_S300_0 : (⟨S1, .f32⟩ : BufTy).Contents (Elt F) → (⟨S300, .f32⟩ : BufTy).Contents (Elt F)),
    binary main_v54 main_v58 main_v59 (subf : (⟨S300, .f32⟩ : BufTy).Contents (Elt F) → (⟨S300, .f32⟩ : BufTy).Contents (Elt F) → (⟨S300, .f32⟩ : BufTy).Contents (Elt F)),
    unary main_v59 main_v60 (Host.exp : (⟨S300, .f32⟩ : BufTy).Contents (Elt F) → (⟨S300, .f32⟩ : BufTy).Contents (Elt F)),
    nullary main_cst_16 (constant S_ .f32 0x00000000#32),
    binary main_v60 main_cst_16 main_v61 ((fun x v => Host.reduceAdd x v reducesTo_S300_S_d0 h_S_) : (⟨S300, .f32⟩ : BufTy).Contents (Elt F) → (⟨S_, .f32⟩ : BufTy).Contents (Elt F) → (⟨S_, .f32⟩ : BufTy).Contents (Elt F)),
    unary main_v61 main_v62 (broadcastInDim S1 ![] bcast_S_S1 : (⟨S_, .f32⟩ : BufTy).Contents (Elt F) → (⟨S1, .f32⟩ : BufTy).Contents (Elt F)),
    unary main_v62 main_v63 (broadcastInDim S300 ![0] bcast_S1_S300_0 : (⟨S1, .f32⟩ : BufTy).Contents (Elt F) → (⟨S300, .f32⟩ : BufTy).Contents (Elt F)),
    binary main_v60 main_v63 main_v64 (Host.divf : (⟨S300, .f32⟩ : BufTy).Contents (Elt F) → (⟨S300, .f32⟩ : BufTy).Contents (Elt F) → (⟨S300, .f32⟩ : BufTy).Contents (Elt F)) ]

set_option maxRecDepth 8192 in
/-- They touch only buffers of the one thread. -/
theorem opsE_sub : (opsE : List (HloOp τ sig (Elt F))).Forall fun op => op.bufs ⊆ tcRefs τ sig :=
  ⟨nullary_bufs_sub .., binary_bufs_sub .., nullary_bufs_sub .., binary_bufs_sub .., unary_bufs_sub .., unary_bufs_sub .., binary_bufs_sub .., unary_bufs_sub .., nullary_bufs_sub .., binary_bufs_sub .., unary_bufs_sub .., unary_bufs_sub .., binary_bufs_sub ..⟩

set_option maxRecDepth 8192 in
set_option maxHeartbeats 4000000 in
/-- The program is the five lists in order. -/
theorem main_eq (c : Dev nD) : main (F := Ideal) c = seq (opsA (F := Ideal) ++ (opsB ++ (opsC ++ (opsD ++ opsE)))) := rfl

/-- The first list leaves the arguments as they were. -/
theorem keptA (V : Valuation τ sig (Elt Ideal)) : after (opsA (F := Ideal)) V (Proc.devRef .tc main_arg0) = V (Proc.devRef .tc main_arg0) ∧ after (opsA (F := Ideal)) V (Proc.devRef .tc main_arg1) = V (Proc.devRef .tc main_arg1) ∧ after (opsA (F := Ideal)) V (Proc.devRef .tc main_arg2) = V (Proc.devRef .tc main_arg2) ∧ after (opsA (F := Ideal)) V (Proc.devRef .tc main_arg3) = V (Proc.devRef .tc main_arg3) ∧ after (opsA (F := Ideal)) V (Proc.devRef .tc main_arg4) = V (Proc.devRef .tc main_arg4) ∧ after (opsA (F := Ideal)) V (Proc.devRef .tc main_arg5) = V (Proc.devRef .tc main_arg5) ∧ after (opsA (F := Ideal)) V (Proc.devRef .tc main_arg6) = V (Proc.devRef .tc main_arg6) ∧ after (opsA (F := Ideal)) V (Proc.devRef .tc main_arg7) = V (Proc.devRef .tc main_arg7) ∧ after (opsA (F := Ideal)) V (Proc.devRef .tc main_arg8) = V (Proc.devRef .tc main_arg8) ∧ after (opsA (F := Ideal)) V (Proc.devRef .tc main_arg9) = V (Proc.devRef .tc main_arg9) := by
  simp only [opsA, TRef.binary, TRef.nullary, TRef.ternary, TRef.unary, TRef.quaternary, TRef.toBuf, TRef.ofBuf, cast_eq]
  refine ⟨?_, ?_, ?_, ?_, ?_, ?_, ?_, ?_, ?_, ?_⟩ <;> after_results_simp

/-- The second list leaves the arguments as they were. -/
theorem keptB (V : Valuation τ sig (Elt Ideal)) : after (opsB (F := Ideal)) V (Proc.devRef .tc main_arg0) = V (Proc.devRef .tc main_arg0) ∧ after (opsB (F := Ideal)) V (Proc.devRef .tc main_arg1) = V (Proc.devRef .tc main_arg1) ∧ after (opsB (F := Ideal)) V (Proc.devRef .tc main_arg2) = V (Proc.devRef .tc main_arg2) ∧ after (opsB (F := Ideal)) V (Proc.devRef .tc main_arg3) = V (Proc.devRef .tc main_arg3) ∧ after (opsB (F := Ideal)) V (Proc.devRef .tc main_arg4) = V (Proc.devRef .tc main_arg4) ∧ after (opsB (F := Ideal)) V (Proc.devRef .tc main_arg5) = V (Proc.devRef .tc main_arg5) ∧ after (opsB (F := Ideal)) V (Proc.devRef .tc main_arg6) = V (Proc.devRef .tc main_arg6) ∧ after (opsB (F := Ideal)) V (Proc.devRef .tc main_arg7) = V (Proc.devRef .tc main_arg7) ∧ after (opsB (F := Ideal)) V (Proc.devRef .tc main_arg8) = V (Proc.devRef .tc main_arg8) ∧ after (opsB (F := Ideal)) V (Proc.devRef .tc main_arg9) = V (Proc.devRef .tc main_arg9) := by
  simp only [opsB, TRef.binary, TRef.nullary, TRef.ternary, TRef.unary, TRef.quaternary, TRef.toBuf, TRef.ofBuf, cast_eq]
  refine ⟨?_, ?_, ?_, ?_, ?_, ?_, ?_, ?_, ?_, ?_⟩ <;> after_results_simp

/-- The third list leaves the arguments as they were. -/
theorem keptC (V : Valuation τ sig (Elt Ideal)) : after (opsC (F := Ideal)) V (Proc.devRef .tc main_arg0) = V (Proc.devRef .tc main_arg0) ∧ after (opsC (F := Ideal)) V (Proc.devRef .tc main_arg1) = V (Proc.devRef .tc main_arg1) ∧ after (opsC (F := Ideal)) V (Proc.devRef .tc main_arg2) = V (Proc.devRef .tc main_arg2) ∧ after (opsC (F := Ideal)) V (Proc.devRef .tc main_arg3) = V (Proc.devRef .tc main_arg3) ∧ after (opsC (F := Ideal)) V (Proc.devRef .tc main_arg4) = V (Proc.devRef .tc main_arg4) ∧ after (opsC (F := Ideal)) V (Proc.devRef .tc main_arg5) = V (Proc.devRef .tc main_arg5) ∧ after (opsC (F := Ideal)) V (Proc.devRef .tc main_arg6) = V (Proc.devRef .tc main_arg6) ∧ after (opsC (F := Ideal)) V (Proc.devRef .tc main_arg7) = V (Proc.devRef .tc main_arg7) ∧ after (opsC (F := Ideal)) V (Proc.devRef .tc main_arg8) = V (Proc.devRef .tc main_arg8) ∧ after (opsC (F := Ideal)) V (Proc.devRef .tc main_arg9) = V (Proc.devRef .tc main_arg9) := by
  simp only [opsC, TRef.binary, TRef.nullary, TRef.ternary, TRef.unary, TRef.quaternary, TRef.toBuf, TRef.ofBuf, cast_eq]
  refine ⟨?_, ?_, ?_, ?_, ?_, ?_, ?_, ?_, ?_, ?_⟩ <;> after_results_simp

/-- The fourth list leaves the arguments as they were. -/
theorem keptD (V : Valuation τ sig (Elt Ideal)) : after (opsD (F := Ideal)) V (Proc.devRef .tc main_arg0) = V (Proc.devRef .tc main_arg0) ∧ after (opsD (F := Ideal)) V (Proc.devRef .tc main_arg1) = V (Proc.devRef .tc main_arg1) ∧ after (opsD (F := Ideal)) V (Proc.devRef .tc main_arg2) = V (Proc.devRef .tc main_arg2) ∧ after (opsD (F := Ideal)) V (Proc.devRef .tc main_arg3) = V (Proc.devRef .tc main_arg3) ∧ after (opsD (F := Ideal)) V (Proc.devRef .tc main_arg4) = V (Proc.devRef .tc main_arg4) ∧ after (opsD (F := Ideal)) V (Proc.devRef .tc main_arg5) = V (Proc.devRef .tc main_arg5) ∧ after (opsD (F := Ideal)) V (Proc.devRef .tc main_arg6) = V (Proc.devRef .tc main_arg6) ∧ after (opsD (F := Ideal)) V (Proc.devRef .tc main_arg7) = V (Proc.devRef .tc main_arg7) ∧ after (opsD (F := Ideal)) V (Proc.devRef .tc main_arg8) = V (Proc.devRef .tc main_arg8) ∧ after (opsD (F := Ideal)) V (Proc.devRef .tc main_arg9) = V (Proc.devRef .tc main_arg9) := by
  simp only [opsD, TRef.binary, TRef.nullary, TRef.ternary, TRef.unary, TRef.quaternary, TRef.toBuf, TRef.ofBuf, cast_eq]
  refine ⟨?_, ?_, ?_, ?_, ?_, ?_, ?_, ?_, ?_, ?_⟩ <;> after_results_simp

/-- The fifth list leaves the arguments as they were. -/
theorem keptE (V : Valuation τ sig (Elt Ideal)) : after (opsE (F := Ideal)) V (Proc.devRef .tc main_arg0) = V (Proc.devRef .tc main_arg0) ∧ after (opsE (F := Ideal)) V (Proc.devRef .tc main_arg1) = V (Proc.devRef .tc main_arg1) ∧ after (opsE (F := Ideal)) V (Proc.devRef .tc main_arg2) = V (Proc.devRef .tc main_arg2) ∧ after (opsE (F := Ideal)) V (Proc.devRef .tc main_arg3) = V (Proc.devRef .tc main_arg3) ∧ after (opsE (F := Ideal)) V (Proc.devRef .tc main_arg4) = V (Proc.devRef .tc main_arg4) ∧ after (opsE (F := Ideal)) V (Proc.devRef .tc main_arg5) = V (Proc.devRef .tc main_arg5) ∧ after (opsE (F := Ideal)) V (Proc.devRef .tc main_arg6) = V (Proc.devRef .tc main_arg6) ∧ after (opsE (F := Ideal)) V (Proc.devRef .tc main_arg7) = V (Proc.devRef .tc main_arg7) ∧ after (opsE (F := Ideal)) V (Proc.devRef .tc main_arg8) = V (Proc.devRef .tc main_arg8) ∧ after (opsE (F := Ideal)) V (Proc.devRef .tc main_arg9) = V (Proc.devRef .tc main_arg9) := by
  simp only [opsE, TRef.binary, TRef.nullary, TRef.ternary, TRef.unary, TRef.quaternary, TRef.toBuf, TRef.ofBuf, cast_eq]
  refine ⟨?_, ?_, ?_, ?_, ?_, ?_, ?_, ?_, ?_, ?_⟩ <;> after_results_simp

/-- The first list leaves the node features in `main_v15`. -/
theorem A_v15 (V : Valuation τ sig (Elt Ideal)) : after (opsA (F := Ideal)) V (Proc.devRef .tc main_v15) = nodes (V (Proc.devRef .tc main_arg0)) (V (Proc.devRef .tc main_arg1)) (V (Proc.devRef .tc main_arg2)) (V (Proc.devRef .tc main_arg3)) (V (Proc.devRef .tc main_arg4)) := by
  simp only [opsA, TRef.binary, TRef.nullary, TRef.ternary, TRef.unary, TRef.quaternary, TRef.toBuf, TRef.ofBuf, cast_eq]
  after_results_simp <;> rfl

/-- The second list leaves the hidden rows in `main_v38`. -/
theorem B_v38 (V : Valuation τ sig (Elt Ideal)) : after (opsB (F := Ideal)) V (Proc.devRef .tc main_v38) = hidden (V (Proc.devRef .tc main_v15)) (V (Proc.devRef .tc main_arg5)) (V (Proc.devRef .tc main_arg6)) (V (Proc.devRef .tc main_arg8)) (V (Proc.devRef .tc main_arg9)) := by
  simp only [opsB, TRef.binary, TRef.nullary, TRef.ternary, TRef.unary, TRef.quaternary, TRef.toBuf, TRef.ofBuf, cast_eq]
  after_results_simp <;> rfl

/-- The third list leaves the number of the chosen row in `main_v46`. -/
theorem C_v46 (V : Valuation τ sig (Elt Ideal)) : after (opsC (F := Ideal)) V (Proc.devRef .tc main_v46) = row (V (Proc.devRef .tc main_arg0)) := by
  simp only [opsC, TRef.binary, TRef.nullary, TRef.ternary, TRef.unary, TRef.quaternary, TRef.toBuf, TRef.ofBuf, cast_eq]
  after_results_simp <;> rfl

/-- The third list leaves the first column in `main_v49`. -/
theorem C_v49 (V : Valuation τ sig (Elt Ideal)) : after (opsC (F := Ideal)) V (Proc.devRef .tc main_v49) = lane := by
  simp only [opsC, TRef.binary, TRef.nullary, TRef.ternary, TRef.unary, TRef.quaternary, TRef.toBuf, TRef.ofBuf, cast_eq]
  after_results_simp <;> rfl

/-- The third list leaves the hidden rows as they were. -/
theorem C_v38 (V : Valuation τ sig (Elt Ideal)) : after (opsC (F := Ideal)) V (Proc.devRef .tc main_v38) = V (Proc.devRef .tc main_v38) := by
  simp only [opsC, TRef.binary, TRef.nullary, TRef.ternary, TRef.unary, TRef.quaternary, TRef.toBuf, TRef.ofBuf, cast_eq]
  after_results_simp <;> rfl

/-- The scores depend on where the row is read only through the two offsets. -/
theorem logits_at (h : FVec Ideal S1300x128 .f32) (Wdec : FVec Ideal S128x128 .f32) (o o' : Fin 2 → Int) (e : o = o') :
    (Host.dotGeneral (F := Ideal) dot_S300x128_S128_S300_1_0_0_n_n_n none
      (Host.dotGeneral dot_S300x128_S128x128_S300x128_1_0_0_1_n_n none (extractStridedSlice S300x128 ![1000, 0] h slices_S1300x128_S300x128_1000_0) Wdec)
      (fun i => shapeCast S128 (Host.dynamicSlice S1x128 h o sliceFits_S1300x128_S1x128) shapeCasts_S1x128_S128 i) : FVec Ideal S300 .f32)
    = Host.dotGeneral (F := Ideal) dot_S300x128_S128_S300_1_0_0_n_n_n none
      (Host.dotGeneral dot_S300x128_S128x128_S300x128_1_0_0_1_n_n none (extractStridedSlice S300x128 ![1000, 0] h slices_S1300x128_S300x128_1000_0) Wdec)
      (shapeCast S128 (Host.dynamicSlice S1x128 h o' sliceFits_S1300x128_S1x128) shapeCasts_S1x128_S128) := by
  rw [e]

/-- The fourth list leaves the scores in `main_v54`. -/
theorem D_v54 (V : Valuation τ sig (Elt Ideal)) : after (opsD (F := Ideal)) V (Proc.devRef .tc main_v54) = logits (V (Proc.devRef .tc main_v38)) (V (Proc.devRef .tc main_v46)) (V (Proc.devRef .tc main_v49)) (V (Proc.devRef .tc main_arg7)) := by
  simp only [opsD]
  after_results_simp
  simp only [logits, chosen]
  exact logits_at _ _ _ _ (funext fun k => by fin_cases k <;> rfl)

/-- The fifth list leaves the softmax of the scores in `main_v64`. -/
theorem E_v64 (V : Valuation τ sig (Elt Ideal)) : after (opsE (F := Ideal)) V (Proc.devRef .tc main_v64) = softmax (V (Proc.devRef .tc main_v54)) := by
  simp only [opsE]
  after_results_simp <;> rfl

/-- What the result buffer holds after all five lists: the softmax of the reference's scores. -/
theorem result (V : Valuation τ sig (Elt Ideal)) :
    after (opsA (F := Ideal) ++ (opsB ++ (opsC ++ (opsD ++ opsE)))) V (Proc.devRef .tc main_v64)
      = softmax (scores (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9))) := by
  have hA := keptA V
  have hB := keptB (after opsA V)
  have hC := keptC (after opsB (after opsA V))
  rw [StableHlo.after_append, StableHlo.after_append, StableHlo.after_append, StableHlo.after_append, E_v64, D_v54, C_v46, C_v49, C_v38, B_v38, A_v15,
    hC.2.2.2.2.2.2.2.1, hB.2.2.2.2.2.2.2.1, hA.2.2.2.2.2.2.2.1, hB.1, hA.1, hA.2.2.2.2.2.1, hA.2.2.2.2.2.2.1,
    hA.2.2.2.2.2.2.2.2.1, hA.2.2.2.2.2.2.2.2.2]
  rfl

/-- All five lists leave the arguments as they were. -/
theorem kept (V : Valuation τ sig (Elt Ideal)) : after (opsA (F := Ideal) ++ (opsB ++ (opsC ++ (opsD ++ opsE)))) V (Proc.devRef .tc main_arg0) = V (Proc.devRef .tc main_arg0) ∧ after (opsA (F := Ideal) ++ (opsB ++ (opsC ++ (opsD ++ opsE)))) V (Proc.devRef .tc main_arg1) = V (Proc.devRef .tc main_arg1) ∧ after (opsA (F := Ideal) ++ (opsB ++ (opsC ++ (opsD ++ opsE)))) V (Proc.devRef .tc main_arg2) = V (Proc.devRef .tc main_arg2) ∧ after (opsA (F := Ideal) ++ (opsB ++ (opsC ++ (opsD ++ opsE)))) V (Proc.devRef .tc main_arg3) = V (Proc.devRef .tc main_arg3) ∧ after (opsA (F := Ideal) ++ (opsB ++ (opsC ++ (opsD ++ opsE)))) V (Proc.devRef .tc main_arg4) = V (Proc.devRef .tc main_arg4) ∧ after (opsA (F := Ideal) ++ (opsB ++ (opsC ++ (opsD ++ opsE)))) V (Proc.devRef .tc main_arg5) = V (Proc.devRef .tc main_arg5) ∧ after (opsA (F := Ideal) ++ (opsB ++ (opsC ++ (opsD ++ opsE)))) V (Proc.devRef .tc main_arg6) = V (Proc.devRef .tc main_arg6) ∧ after (opsA (F := Ideal) ++ (opsB ++ (opsC ++ (opsD ++ opsE)))) V (Proc.devRef .tc main_arg7) = V (Proc.devRef .tc main_arg7) ∧ after (opsA (F := Ideal) ++ (opsB ++ (opsC ++ (opsD ++ opsE)))) V (Proc.devRef .tc main_arg8) = V (Proc.devRef .tc main_arg8) ∧ after (opsA (F := Ideal) ++ (opsB ++ (opsC ++ (opsD ++ opsE)))) V (Proc.devRef .tc main_arg9) = V (Proc.devRef .tc main_arg9) := by
  have hA := keptA V
  have hB := keptB (after opsA V)
  have hC := keptC (after opsB (after opsA V))
  have hD := keptD (after opsC (after opsB (after opsA V)))
  have hE := keptE (after opsD (after opsC (after opsB (after opsA V))))
  simp only [StableHlo.after_append]
  exact ⟨hE.1.trans (hD.1.trans (hC.1.trans (hB.1.trans hA.1))), hE.2.1.trans (hD.2.1.trans (hC.2.1.trans (hB.2.1.trans hA.2.1))), hE.2.2.1.trans (hD.2.2.1.trans (hC.2.2.1.trans (hB.2.2.1.trans hA.2.2.1))), hE.2.2.2.1.trans (hD.2.2.2.1.trans (hC.2.2.2.1.trans (hB.2.2.2.1.trans hA.2.2.2.1))), hE.2.2.2.2.1.trans (hD.2.2.2.2.1.trans (hC.2.2.2.2.1.trans (hB.2.2.2.2.1.trans hA.2.2.2.2.1))), hE.2.2.2.2.2.1.trans (hD.2.2.2.2.2.1.trans (hC.2.2.2.2.2.1.trans (hB.2.2.2.2.2.1.trans hA.2.2.2.2.2.1))), hE.2.2.2.2.2.2.1.trans (hD.2.2.2.2.2.2.1.trans (hC.2.2.2.2.2.2.1.trans (hB.2.2.2.2.2.2.1.trans hA.2.2.2.2.2.2.1))), hE.2.2.2.2.2.2.2.1.trans (hD.2.2.2.2.2.2.2.1.trans (hC.2.2.2.2.2.2.2.1.trans (hB.2.2.2.2.2.2.2.1.trans hA.2.2.2.2.2.2.2.1))), hE.2.2.2.2.2.2.2.2.1.trans (hD.2.2.2.2.2.2.2.2.1.trans (hC.2.2.2.2.2.2.2.2.1.trans (hB.2.2.2.2.2.2.2.2.1.trans hA.2.2.2.2.2.2.2.2.1))), hE.2.2.2.2.2.2.2.2.2.trans (hD.2.2.2.2.2.2.2.2.2.trans (hC.2.2.2.2.2.2.2.2.2.trans (hB.2.2.2.2.2.2.2.2.2.trans hA.2.2.2.2.2.2.2.2.2)))⟩

/-- The program scopes no buffer and no semaphore. -/
theorem scopedRefs_eq : (Finset.univ.filter fun b : Ref sig .tc => b.isScoped) = ∅ := by decide
/-- It scopes no semaphore. -/
theorem scopedSems_eq : (Finset.univ.filter fun sm : SemLoc sig => sm.isScoped .tc) = ∅ := by decide

/-- The reference's run: from any memory with zero counters it ends with the result buffer at the softmax of the scores,
    the arguments as they were, and every counter at zero. -/
theorem run (m : (ℓ : Loc nD τ sig) → Buf (Elt Ideal) ℓ) (ρ : Dev nD → PrngReg) :
    θ_run defs (onTc (τ := τ) (main (F := Ideal))) ⟨m, fun _ => 0, ρ⟩ fun r => (∀ c : Dev nD,
      r.2.mem ((c.tc : Thread nD τ).loc main_v64) = softmax (scores (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)))
      ∧ r.2.mem ((c.tc : Thread nD τ).loc main_arg0) = m ((c.tc : Thread nD τ).loc main_arg0) ∧ r.2.mem ((c.tc : Thread nD τ).loc main_arg1) = m ((c.tc : Thread nD τ).loc main_arg1) ∧ r.2.mem ((c.tc : Thread nD τ).loc main_arg2) = m ((c.tc : Thread nD τ).loc main_arg2) ∧ r.2.mem ((c.tc : Thread nD τ).loc main_arg3) = m ((c.tc : Thread nD τ).loc main_arg3) ∧ r.2.mem ((c.tc : Thread nD τ).loc main_arg4) = m ((c.tc : Thread nD τ).loc main_arg4) ∧ r.2.mem ((c.tc : Thread nD τ).loc main_arg5) = m ((c.tc : Thread nD τ).loc main_arg5) ∧ r.2.mem ((c.tc : Thread nD τ).loc main_arg6) = m ((c.tc : Thread nD τ).loc main_arg6) ∧ r.2.mem ((c.tc : Thread nD τ).loc main_arg7) = m ((c.tc : Thread nD τ).loc main_arg7) ∧ r.2.mem ((c.tc : Thread nD τ).loc main_arg8) = m ((c.tc : Thread nD τ).loc main_arg8) ∧ r.2.mem ((c.tc : Thread nD τ).loc main_arg9) = m ((c.tc : Thread nD τ).loc main_arg9))
      ∧ r.2.sem = fun _ => 0 :=
  (θ_run defs _ _).mono (fun r h => ⟨fun c => ⟨(h c main_v64).trans (result _), (h c main_arg0).trans (kept _).1, (h c main_arg1).trans (kept _).2.1, (h c main_arg2).trans (kept _).2.2.1, (h c main_arg3).trans (kept _).2.2.2.1, (h c main_arg4).trans (kept _).2.2.2.2.1, (h c main_arg5).trans (kept _).2.2.2.2.2.1, (h c main_arg6).trans (kept _).2.2.2.2.2.2.1, (h c main_arg7).trans (kept _).2.2.2.2.2.2.2.1, (h c main_arg8).trans (kept _).2.2.2.2.2.2.2.2.1, (h c main_arg9).trans (kept _).2.2.2.2.2.2.2.2.2⟩,
      sem_eq_zero_of_no_sems (by decide) r.2⟩)
    (run_seq scopedRefs_eq scopedSems_eq defs main (fun _ => opsA ++ (opsB ++ (opsC ++ (opsD ++ opsE)))) main_eq
      (fun _ => List.forall_append.mpr ⟨opsA_sub, List.forall_append.mpr ⟨opsB_sub, List.forall_append.mpr ⟨opsC_sub, List.forall_append.mpr ⟨opsD_sub, opsE_sub⟩⟩⟩⟩) m ρ)

end Cert.Proof.Ref

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_drawn
public import proofs.«01_k».proof.Proof.Equation
public import proofs.«01_k».proof.Proof.KerRun
public import proofs.«01_k».proof.Proof.RefRun
public import Idealize.ShloMosaic.Adequacy
public import Idealize.ShloMosaic.Init

@[expose] public section

noncomputable section

namespace Cert.Proof

open Idealize.ShloMosaic Idealize.SL.Sem

/-- Over the extended reals the kernel and the reference end with the same result, whenever the arguments meet the
    precondition; both leave their arguments as they were. -/
theorem same [Cert.KernelIdeal.Facts] [Cert.ReferenceIdeal.Facts] [Cert.Pre_drawn.Facts] : Cert.algebraic_KernelIdeal_ReferenceIdeal_pre_drawn := by
  intro m g m' g' pre args
  refine ⟨fun c => _, (θ_run Cert.KernelIdeal.defs _ _).mono (fun r h c => ⟨h.1 c, h.2 c⟩) (θ_run_and (Ker.run m g) (Cert.KernelIdeal.Gen.unchanged m g)),
    (θ_run Cert.ReferenceIdeal.defs _ _).mono (fun r h c => ⟨((h.1 c).1).trans ?_, (h.1 c).2⟩) (Ref.run m' g')⟩
  obtain ⟨h0, h1, h2, h3, h4, h5, h6, h7, h8, h9⟩ := args c
  rw [h0, h1, h2, h3, h4, h5, h6, h7, h8, h9]
  exact (equation (Pre.drawn _ _ _ _ _ _ _ _ _ _ (pre c))).symm

/-- The claims of Defs.lean, in their order. -/
theorem claim : Cert.Claim := ⟨Cert.Kernel.Gen.facts, Cert.KernelIdeal.Gen.facts, Cert.ReferenceIdeal.Gen.facts, Cert.Pre_drawn.Gen.facts,
  fun m ρ _ => Cert.Kernel.Gen.frame m ρ,
  fun m ρ _ => Cert.KernelIdeal.Gen.frame m ρ,
  fun m ρ _ => Cert.KernelIdeal.Gen.frame m ρ,
  fun m ρ _ => (θ_run Cert.ReferenceIdeal.defs _ _).mono (fun _ h => ⟨fun c => (h.1 c).2, h.2⟩) (Ref.run m ρ),
  fun m ρ _ => (θ_run Cert.ReferenceIdeal.defs _ _).mono (fun _ h => ⟨fun c => (h.1 c).2, h.2⟩) (Ref.run m ρ),
  IdealRules.named_const.statement Cert.KernelIdeal.κ "inv_s" .f32 0x3A83126F#32 ((1000⁻¹ : ℝ) : EReal) rfl,
  same⟩

end Cert.Proof

end
